-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x256 : Shape := ⟨2, ![256, 256]⟩
abbrev S32x16x256 : Shape := ⟨3, ![32, 16, 256]⟩
abbrev S32 : Shape := ⟨1, ![32]⟩
abbrev S_ : Shape := ⟨0, ![]⟩
abbrev S1 : Shape := ⟨1, ![1]⟩
abbrev S1x16x256 : Shape := ⟨3, ![1, 16, 256]⟩
abbrev S16x256 : Shape := ⟨2, ![16, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S512x256, .f32⟩
  | .local _ .vmem, ⟨0, _⟩ => ⟨S512x256, .f32⟩
  | .local _ .vmem, ⟨1, _⟩ => ⟨S256x256, .f32⟩
  | .local _ .vmem, ⟨2, _⟩ => ⟨S512x256, .f32⟩
  | .local _ .vmem, ⟨3, _⟩ => ⟨S32x16x256, .f32⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_280 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v407 : BitVec 32 := Scalar.addi v2 c1_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c16_i32_287 : BitVec 32 := 16#32
  let v418 : BitVec 32 := Scalar.muli v417 c16_i32_287
  let c0_i32_295 : BitVec 32 := 0#32
  ![v418.toNat, 0]
def k0_dev32 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_280 : BitVec 32 := 1#32
  let v407 : BitVec 32 := Scalar.addi v2 c1_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c1_i32_291 : BitVec 32 := 1#32
  let v419 : BitVec 32 := Scalar.muli v417 c1_i32_291
  let v420 : BitVec 32 := Scalar.addi c0_i32_292 v419
  v420.toNat
def k0_dev33 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_296 : BitVec 32 := 2#32
  let v428 : BitVec 32 := Scalar.addi v2 c2_i32_296
  let c32_i32_297 : BitVec 32 := 32#32
  let c0_i32_298 : BitVec 32 := 0#32
  let v429 : BitVec 1 := Scalar.cmpi .eq c32_i32_297 c0_i32_298
  let c1_i32_299 : BitVec 32 := 1#32
  let v430 : BitVec 32 := Scalar.select v429 c1_i32_299 c32_i32_297
  let v431 : BitVec 32 := Scalar.remsi v428 v430
  let c0_i32_301 : BitVec 32 := 0#32
  let v433 : BitVec 1 := Scalar.cmpi .slt v431 c0_i32_301
  let c0_i32_302 : BitVec 32 := 0#32
  let v434 : BitVec 1 := Scalar.cmpi .slt v430 c0_i32_302
  let v435 : BitVec 1 := Scalar.xori v433 v434
  let c0_i32_300 : BitVec 32 := 0#32
  let v432 : BitVec 1 := Scalar.cmpi .ne v431 c0_i32_300
  let v436 : BitVec 1 := Scalar.andi v435 v432
  let v437 : BitVec 32 := Scalar.addi v431 v430
  let v438 : BitVec 32 := Scalar.select v436 v437 v431
  let c1_i32_307 : BitVec 32 := 1#32
  let v440 : BitVec 32 := Scalar.muli v438 c1_i32_307
  let v441 : BitVec 32 := Scalar.addi c0_i32_308 v440
  v441.toNat
def k0_dev34 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_312 : BitVec 32 := 3#32
  let v449 : BitVec 32 := Scalar.addi v2 c3_i32_312
  let c32_i32_313 : BitVec 32 := 32#32
  let c0_i32_314 : BitVec 32 := 0#32
  let v450 : BitVec 1 := Scalar.cmpi .eq c32_i32_313 c0_i32_314
  let c1_i32_315 : BitVec 32 := 1#32
  let v451 : BitVec 32 := Scalar.select v450 c1_i32_315 c32_i32_313
  let v452 : BitVec 32 := Scalar.remsi v449 v451
  let c0_i32_317 : BitVec 32 := 0#32
  let v454 : BitVec 1 := Scalar.cmpi .slt v452 c0_i32_317
  let c0_i32_318 : BitVec 32 := 0#32
  let v455 : BitVec 1 := Scalar.cmpi .slt v451 c0_i32_318
  let v456 : BitVec 1 := Scalar.xori v454 v455
  let c0_i32_316 : BitVec 32 := 0#32
  let v453 : BitVec 1 := Scalar.cmpi .ne v452 c0_i32_316
  let v457 : BitVec 1 := Scalar.andi v456 v453
  let v458 : BitVec 32 := Scalar.addi v452 v451
  let v459 : BitVec 32 := Scalar.select v457 v458 v452
  let c1_i32_323 : BitVec 32 := 1#32
  let v461 : BitVec 32 := Scalar.muli v459 c1_i32_323
  let v462 : BitVec 32 := Scalar.addi c0_i32_324 v461
  v462.toNat
def k0_dev35 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_328 : BitVec 32 := 4#32
  let v470 : BitVec 32 := Scalar.addi v2 c4_i32_328
  let c32_i32_329 : BitVec 32 := 32#32
  let c0_i32_330 : BitVec 32 := 0#32
  let v471 : BitVec 1 := Scalar.cmpi .eq c32_i32_329 c0_i32_330
  let c1_i32_331 : BitVec 32 := 1#32
  let v472 : BitVec 32 := Scalar.select v471 c1_i32_331 c32_i32_329
  let v473 : BitVec 32 := Scalar.remsi v470 v472
  let c0_i32_333 : BitVec 32 := 0#32
  let v475 : BitVec 1 := Scalar.cmpi .slt v473 c0_i32_333
  let c0_i32_334 : BitVec 32 := 0#32
  let v476 : BitVec 1 := Scalar.cmpi .slt v472 c0_i32_334
  let v477 : BitVec 1 := Scalar.xori v475 v476
  let c0_i32_332 : BitVec 32 := 0#32
  let v474 : BitVec 1 := Scalar.cmpi .ne v473 c0_i32_332
  let v478 : BitVec 1 := Scalar.andi v477 v474
  let v479 : BitVec 32 := Scalar.addi v473 v472
  let v480 : BitVec 32 := Scalar.select v478 v479 v473
  let c1_i32_339 : BitVec 32 := 1#32
  let v482 : BitVec 32 := Scalar.muli v480 c1_i32_339
  let v483 : BitVec 32 := Scalar.addi c0_i32_340 v482
  v483.toNat
def k0_dev36 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_344 : BitVec 32 := 5#32
  let v491 : BitVec 32 := Scalar.addi v2 c5_i32_344
  let c32_i32_345 : BitVec 32 := 32#32
  let c0_i32_346 : BitVec 32 := 0#32
  let v492 : BitVec 1 := Scalar.cmpi .eq c32_i32_345 c0_i32_346
  let c1_i32_347 : BitVec 32 := 1#32
  let v493 : BitVec 32 := Scalar.select v492 c1_i32_347 c32_i32_345
  let v494 : BitVec 32 := Scalar.remsi v491 v493
  let c0_i32_349 : BitVec 32 := 0#32
  let v496 : BitVec 1 := Scalar.cmpi .slt v494 c0_i32_349
  let c0_i32_350 : BitVec 32 := 0#32
  let v497 : BitVec 1 := Scalar.cmpi .slt v493 c0_i32_350
  let v498 : BitVec 1 := Scalar.xori v496 v497
  let c0_i32_348 : BitVec 32 := 0#32
  let v495 : BitVec 1 := Scalar.cmpi .ne v494 c0_i32_348
  let v499 : BitVec 1 := Scalar.andi v498 v495
  let v500 : BitVec 32 := Scalar.addi v494 v493
  let v501 : BitVec 32 := Scalar.select v499 v500 v494
  let c1_i32_355 : BitVec 32 := 1#32
  let v503 : BitVec 32 := Scalar.muli v501 c1_i32_355
  let v504 : BitVec 32 := Scalar.addi c0_i32_356 v503
  v504.toNat
def k0_dev37 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_360 : BitVec 32 := 6#32
  let v512 : BitVec 32 := Scalar.addi v2 c6_i32_360
  let c32_i32_361 : BitVec 32 := 32#32
  let c0_i32_362 : BitVec 32 := 0#32
  let v513 : BitVec 1 := Scalar.cmpi .eq c32_i32_361 c0_i32_362
  let c1_i32_363 : BitVec 32 := 1#32
  let v514 : BitVec 32 := Scalar.select v513 c1_i32_363 c32_i32_361
  let v515 : BitVec 32 := Scalar.remsi v512 v514
  let c0_i32_365 : BitVec 32 := 0#32
  let v517 : BitVec 1 := Scalar.cmpi .slt v515 c0_i32_365
  let c0_i32_366 : BitVec 32 := 0#32
  let v518 : BitVec 1 := Scalar.cmpi .slt v514 c0_i32_366
  let v519 : BitVec 1 := Scalar.xori v517 v518
  let c0_i32_364 : BitVec 32 := 0#32
  let v516 : BitVec 1 := Scalar.cmpi .ne v515 c0_i32_364
  let v520 : BitVec 1 := Scalar.andi v519 v516
  let v521 : BitVec 32 := Scalar.addi v515 v514
  let v522 : BitVec 32 := Scalar.select v520 v521 v515
  let c1_i32_371 : BitVec 32 := 1#32
  let v524 : BitVec 32 := Scalar.muli v522 c1_i32_371
  let v525 : BitVec 32 := Scalar.addi c0_i32_372 v524
  v525.toNat
def k0_dev38 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_376 : BitVec 32 := 7#32
  let v533 : BitVec 32 := Scalar.addi v2 c7_i32_376
  let c32_i32_377 : BitVec 32 := 32#32
  let c0_i32_378 : BitVec 32 := 0#32
  let v534 : BitVec 1 := Scalar.cmpi .eq c32_i32_377 c0_i32_378
  let c1_i32_379 : BitVec 32 := 1#32
  let v535 : BitVec 32 := Scalar.select v534 c1_i32_379 c32_i32_377
  let v536 : BitVec 32 := Scalar.remsi v533 v535
  let c0_i32_381 : BitVec 32 := 0#32
  let v538 : BitVec 1 := Scalar.cmpi .slt v536 c0_i32_381
  let c0_i32_382 : BitVec 32 := 0#32
  let v539 : BitVec 1 := Scalar.cmpi .slt v535 c0_i32_382
  let v540 : BitVec 1 := Scalar.xori v538 v539
  let c0_i32_380 : BitVec 32 := 0#32
  let v537 : BitVec 1 := Scalar.cmpi .ne v536 c0_i32_380
  let v541 : BitVec 1 := Scalar.andi v540 v537
  let v542 : BitVec 32 := Scalar.addi v536 v535
  let v543 : BitVec 32 := Scalar.select v541 v542 v536
  let c1_i32_387 : BitVec 32 := 1#32
  let v545 : BitVec 32 := Scalar.muli v543 c1_i32_387
  let v546 : BitVec 32 := Scalar.addi c0_i32_388 v545
  v546.toNat
def k0_dev39 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_392 : BitVec 32 := 8#32
  let v554 : BitVec 32 := Scalar.addi v2 c8_i32_392
  let c32_i32_393 : BitVec 32 := 32#32
  let c0_i32_394 : BitVec 32 := 0#32
  let v555 : BitVec 1 := Scalar.cmpi .eq c32_i32_393 c0_i32_394
  let c1_i32_395 : BitVec 32 := 1#32
  let v556 : BitVec 32 := Scalar.select v555 c1_i32_395 c32_i32_393
  let v557 : BitVec 32 := Scalar.remsi v554 v556
  let c0_i32_397 : BitVec 32 := 0#32
  let v559 : BitVec 1 := Scalar.cmpi .slt v557 c0_i32_397
  let c0_i32_398 : BitVec 32 := 0#32
  let v560 : BitVec 1 := Scalar.cmpi .slt v556 c0_i32_398
  let v561 : BitVec 1 := Scalar.xori v559 v560
  let c0_i32_396 : BitVec 32 := 0#32
  let v558 : BitVec 1 := Scalar.cmpi .ne v557 c0_i32_396
  let v562 : BitVec 1 := Scalar.andi v561 v558
  let v563 : BitVec 32 := Scalar.addi v557 v556
  let v564 : BitVec 32 := Scalar.select v562 v563 v557
  let c1_i32_403 : BitVec 32 := 1#32
  let v566 : BitVec 32 := Scalar.muli v564 c1_i32_403
  let v567 : BitVec 32 := Scalar.addi c0_i32_404 v566
  v567.toNat
def k0_dev40 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_408 : BitVec 32 := 9#32
  let v575 : BitVec 32 := Scalar.addi v2 c9_i32_408
  let c32_i32_409 : BitVec 32 := 32#32
  let c0_i32_410 : BitVec 32 := 0#32
  let v576 : BitVec 1 := Scalar.cmpi .eq c32_i32_409 c0_i32_410
  let c1_i32_411 : BitVec 32 := 1#32
  let v577 : BitVec 32 := Scalar.select v576 c1_i32_411 c32_i32_409
  let v578 : BitVec 32 := Scalar.remsi v575 v577
  let c0_i32_413 : BitVec 32 := 0#32
  let v580 : BitVec 1 := Scalar.cmpi .slt v578 c0_i32_413
  let c0_i32_414 : BitVec 32 := 0#32
  let v581 : BitVec 1 := Scalar.cmpi .slt v577 c0_i32_414
  let v582 : BitVec 1 := Scalar.xori v580 v581
  let c0_i32_412 : BitVec 32 := 0#32
  let v579 : BitVec 1 := Scalar.cmpi .ne v578 c0_i32_412
  let v583 : BitVec 1 := Scalar.andi v582 v579
  let v584 : BitVec 32 := Scalar.addi v578 v577
  let v585 : BitVec 32 := Scalar.select v583 v584 v578
  let c1_i32_419 : BitVec 32 := 1#32
  let v587 : BitVec 32 := Scalar.muli v585 c1_i32_419
  let v588 : BitVec 32 := Scalar.addi c0_i32_420 v587
  v588.toNat
def k0_dev41 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_424 : BitVec 32 := 10#32
  let v596 : BitVec 32 := Scalar.addi v2 c10_i32_424
  let c32_i32_425 : BitVec 32 := 32#32
  let c0_i32_426 : BitVec 32 := 0#32
  let v597 : BitVec 1 := Scalar.cmpi .eq c32_i32_425 c0_i32_426
  let c1_i32_427 : BitVec 32 := 1#32
  let v598 : BitVec 32 := Scalar.select v597 c1_i32_427 c32_i32_425
  let v599 : BitVec 32 := Scalar.remsi v596 v598
  let c0_i32_429 : BitVec 32 := 0#32
  let v601 : BitVec 1 := Scalar.cmpi .slt v599 c0_i32_429
  let c0_i32_430 : BitVec 32 := 0#32
  let v602 : BitVec 1 := Scalar.cmpi .slt v598 c0_i32_430
  let v603 : BitVec 1 := Scalar.xori v601 v602
  let c0_i32_428 : BitVec 32 := 0#32
  let v600 : BitVec 1 := Scalar.cmpi .ne v599 c0_i32_428
  let v604 : BitVec 1 := Scalar.andi v603 v600
  let v605 : BitVec 32 := Scalar.addi v599 v598
  let v606 : BitVec 32 := Scalar.select v604 v605 v599
  let c1_i32_435 : BitVec 32 := 1#32
  let v608 : BitVec 32 := Scalar.muli v606 c1_i32_435
  let v609 : BitVec 32 := Scalar.addi c0_i32_436 v608
  v609.toNat
def k0_dev42 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_440 : BitVec 32 := 11#32
  let v617 : BitVec 32 := Scalar.addi v2 c11_i32_440
  let c32_i32_441 : BitVec 32 := 32#32
  let c0_i32_442 : BitVec 32 := 0#32
  let v618 : BitVec 1 := Scalar.cmpi .eq c32_i32_441 c0_i32_442
  let c1_i32_443 : BitVec 32 := 1#32
  let v619 : BitVec 32 := Scalar.select v618 c1_i32_443 c32_i32_441
  let v620 : BitVec 32 := Scalar.remsi v617 v619
  let c0_i32_445 : BitVec 32 := 0#32
  let v622 : BitVec 1 := Scalar.cmpi .slt v620 c0_i32_445
  let c0_i32_446 : BitVec 32 := 0#32
  let v623 : BitVec 1 := Scalar.cmpi .slt v619 c0_i32_446
  let v624 : BitVec 1 := Scalar.xori v622 v623
  let c0_i32_444 : BitVec 32 := 0#32
  let v621 : BitVec 1 := Scalar.cmpi .ne v620 c0_i32_444
  let v625 : BitVec 1 := Scalar.andi v624 v621
  let v626 : BitVec 32 := Scalar.addi v620 v619
  let v627 : BitVec 32 := Scalar.select v625 v626 v620
  let c1_i32_451 : BitVec 32 := 1#32
  let v629 : BitVec 32 := Scalar.muli v627 c1_i32_451
  let v630 : BitVec 32 := Scalar.addi c0_i32_452 v629
  v630.toNat
def k0_dev43 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_456 : BitVec 32 := 12#32
  let v638 : BitVec 32 := Scalar.addi v2 c12_i32_456
  let c32_i32_457 : BitVec 32 := 32#32
  let c0_i32_458 : BitVec 32 := 0#32
  let v639 : BitVec 1 := Scalar.cmpi .eq c32_i32_457 c0_i32_458
  let c1_i32_459 : BitVec 32 := 1#32
  let v640 : BitVec 32 := Scalar.select v639 c1_i32_459 c32_i32_457
  let v641 : BitVec 32 := Scalar.remsi v638 v640
  let c0_i32_461 : BitVec 32 := 0#32
  let v643 : BitVec 1 := Scalar.cmpi .slt v641 c0_i32_461
  let c0_i32_462 : BitVec 32 := 0#32
  let v644 : BitVec 1 := Scalar.cmpi .slt v640 c0_i32_462
  let v645 : BitVec 1 := Scalar.xori v643 v644
  let c0_i32_460 : BitVec 32 := 0#32
  let v642 : BitVec 1 := Scalar.cmpi .ne v641 c0_i32_460
  let v646 : BitVec 1 := Scalar.andi v645 v642
  let v647 : BitVec 32 := Scalar.addi v641 v640
  let v648 : BitVec 32 := Scalar.select v646 v647 v641
  let c1_i32_467 : BitVec 32 := 1#32
  let v650 : BitVec 32 := Scalar.muli v648 c1_i32_467
  let v651 : BitVec 32 := Scalar.addi c0_i32_468 v650
  v651.toNat
def k0_dev44 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_472 : BitVec 32 := 13#32
  let v659 : BitVec 32 := Scalar.addi v2 c13_i32_472
  let c32_i32_473 : BitVec 32 := 32#32
  let c0_i32_474 : BitVec 32 := 0#32
  let v660 : BitVec 1 := Scalar.cmpi .eq c32_i32_473 c0_i32_474
  let c1_i32_475 : BitVec 32 := 1#32
  let v661 : BitVec 32 := Scalar.select v660 c1_i32_475 c32_i32_473
  let v662 : BitVec 32 := Scalar.remsi v659 v661
  let c0_i32_477 : BitVec 32 := 0#32
  let v664 : BitVec 1 := Scalar.cmpi .slt v662 c0_i32_477
  let c0_i32_478 : BitVec 32 := 0#32
  let v665 : BitVec 1 := Scalar.cmpi .slt v661 c0_i32_478
  let v666 : BitVec 1 := Scalar.xori v664 v665
  let c0_i32_476 : BitVec 32 := 0#32
  let v663 : BitVec 1 := Scalar.cmpi .ne v662 c0_i32_476
  let v667 : BitVec 1 := Scalar.andi v666 v663
  let v668 : BitVec 32 := Scalar.addi v662 v661
  let v669 : BitVec 32 := Scalar.select v667 v668 v662
  let c1_i32_483 : BitVec 32 := 1#32
  let v671 : BitVec 32 := Scalar.muli v669 c1_i32_483
  let v672 : BitVec 32 := Scalar.addi c0_i32_484 v671
  v672.toNat
def k0_dev45 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_488 : BitVec 32 := 14#32
  let v680 : BitVec 32 := Scalar.addi v2 c14_i32_488
  let c32_i32_489 : BitVec 32 := 32#32
  let c0_i32_490 : BitVec 32 := 0#32
  let v681 : BitVec 1 := Scalar.cmpi .eq c32_i32_489 c0_i32_490
  let c1_i32_491 : BitVec 32 := 1#32
  let v682 : BitVec 32 := Scalar.select v681 c1_i32_491 c32_i32_489
  let v683 : BitVec 32 := Scalar.remsi v680 v682
  let c0_i32_493 : BitVec 32 := 0#32
  let v685 : BitVec 1 := Scalar.cmpi .slt v683 c0_i32_493
  let c0_i32_494 : BitVec 32 := 0#32
  let v686 : BitVec 1 := Scalar.cmpi .slt v682 c0_i32_494
  let v687 : BitVec 1 := Scalar.xori v685 v686
  let c0_i32_492 : BitVec 32 := 0#32
  let v684 : BitVec 1 := Scalar.cmpi .ne v683 c0_i32_492
  let v688 : BitVec 1 := Scalar.andi v687 v684
  let v689 : BitVec 32 := Scalar.addi v683 v682
  let v690 : BitVec 32 := Scalar.select v688 v689 v683
  let c1_i32_499 : BitVec 32 := 1#32
  let v692 : BitVec 32 := Scalar.muli v690 c1_i32_499
  let v693 : BitVec 32 := Scalar.addi c0_i32_500 v692
  v693.toNat
def k0_dev46 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_504 : BitVec 32 := 15#32
  let v701 : BitVec 32 := Scalar.addi v2 c15_i32_504
  let c32_i32_505 : BitVec 32 := 32#32
  let c0_i32_506 : BitVec 32 := 0#32
  let v702 : BitVec 1 := Scalar.cmpi .eq c32_i32_505 c0_i32_506
  let c1_i32_507 : BitVec 32 := 1#32
  let v703 : BitVec 32 := Scalar.select v702 c1_i32_507 c32_i32_505
  let v704 : BitVec 32 := Scalar.remsi v701 v703
  let c0_i32_509 : BitVec 32 := 0#32
  let v706 : BitVec 1 := Scalar.cmpi .slt v704 c0_i32_509
  let c0_i32_510 : BitVec 32 := 0#32
  let v707 : BitVec 1 := Scalar.cmpi .slt v703 c0_i32_510
  let v708 : BitVec 1 := Scalar.xori v706 v707
  let c0_i32_508 : BitVec 32 := 0#32
  let v705 : BitVec 1 := Scalar.cmpi .ne v704 c0_i32_508
  let v709 : BitVec 1 := Scalar.andi v708 v705
  let v710 : BitVec 32 := Scalar.addi v704 v703
  let v711 : BitVec 32 := Scalar.select v709 v710 v704
  let c1_i32_515 : BitVec 32 := 1#32
  let v713 : BitVec 32 := Scalar.muli v711 c1_i32_515
  let v714 : BitVec 32 := Scalar.addi c0_i32_516 v713
  v714.toNat
def k0_dev47 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_520 : BitVec 32 := 16#32
  let v722 : BitVec 32 := Scalar.addi v2 c16_i32_520
  let c32_i32_521 : BitVec 32 := 32#32
  let c0_i32_522 : BitVec 32 := 0#32
  let v723 : BitVec 1 := Scalar.cmpi .eq c32_i32_521 c0_i32_522
  let c1_i32_523 : BitVec 32 := 1#32
  let v724 : BitVec 32 := Scalar.select v723 c1_i32_523 c32_i32_521
  let v725 : BitVec 32 := Scalar.remsi v722 v724
  let c0_i32_525 : BitVec 32 := 0#32
  let v727 : BitVec 1 := Scalar.cmpi .slt v725 c0_i32_525
  let c0_i32_526 : BitVec 32 := 0#32
  let v728 : BitVec 1 := Scalar.cmpi .slt v724 c0_i32_526
  let v729 : BitVec 1 := Scalar.xori v727 v728
  let c0_i32_524 : BitVec 32 := 0#32
  let v726 : BitVec 1 := Scalar.cmpi .ne v725 c0_i32_524
  let v730 : BitVec 1 := Scalar.andi v729 v726
  let v731 : BitVec 32 := Scalar.addi v725 v724
  let v732 : BitVec 32 := Scalar.select v730 v731 v725
  let c1_i32_531 : BitVec 32 := 1#32
  let v734 : BitVec 32 := Scalar.muli v732 c1_i32_531
  let v735 : BitVec 32 := Scalar.addi c0_i32_532 v734
  v735.toNat
def k0_dev48 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_536 : BitVec 32 := 17#32
  let v743 : BitVec 32 := Scalar.addi v2 c17_i32_536
  let c32_i32_537 : BitVec 32 := 32#32
  let c0_i32_538 : BitVec 32 := 0#32
  let v744 : BitVec 1 := Scalar.cmpi .eq c32_i32_537 c0_i32_538
  let c1_i32_539 : BitVec 32 := 1#32
  let v745 : BitVec 32 := Scalar.select v744 c1_i32_539 c32_i32_537
  let v746 : BitVec 32 := Scalar.remsi v743 v745
  let c0_i32_541 : BitVec 32 := 0#32
  let v748 : BitVec 1 := Scalar.cmpi .slt v746 c0_i32_541
  let c0_i32_542 : BitVec 32 := 0#32
  let v749 : BitVec 1 := Scalar.cmpi .slt v745 c0_i32_542
  let v750 : BitVec 1 := Scalar.xori v748 v749
  let c0_i32_540 : BitVec 32 := 0#32
  let v747 : BitVec 1 := Scalar.cmpi .ne v746 c0_i32_540
  let v751 : BitVec 1 := Scalar.andi v750 v747
  let v752 : BitVec 32 := Scalar.addi v746 v745
  let v753 : BitVec 32 := Scalar.select v751 v752 v746
  let c1_i32_547 : BitVec 32 := 1#32
  let v755 : BitVec 32 := Scalar.muli v753 c1_i32_547
  let v756 : BitVec 32 := Scalar.addi c0_i32_548 v755
  v756.toNat
def k0_dev49 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_552 : BitVec 32 := 18#32
  let v764 : BitVec 32 := Scalar.addi v2 c18_i32_552
  let c32_i32_553 : BitVec 32 := 32#32
  let c0_i32_554 : BitVec 32 := 0#32
  let v765 : BitVec 1 := Scalar.cmpi .eq c32_i32_553 c0_i32_554
  let c1_i32_555 : BitVec 32 := 1#32
  let v766 : BitVec 32 := Scalar.select v765 c1_i32_555 c32_i32_553
  let v767 : BitVec 32 := Scalar.remsi v764 v766
  let c0_i32_557 : BitVec 32 := 0#32
  let v769 : BitVec 1 := Scalar.cmpi .slt v767 c0_i32_557
  let c0_i32_558 : BitVec 32 := 0#32
  let v770 : BitVec 1 := Scalar.cmpi .slt v766 c0_i32_558
  let v771 : BitVec 1 := Scalar.xori v769 v770
  let c0_i32_556 : BitVec 32 := 0#32
  let v768 : BitVec 1 := Scalar.cmpi .ne v767 c0_i32_556
  let v772 : BitVec 1 := Scalar.andi v771 v768
  let v773 : BitVec 32 := Scalar.addi v767 v766
  let v774 : BitVec 32 := Scalar.select v772 v773 v767
  let c1_i32_563 : BitVec 32 := 1#32
  let v776 : BitVec 32 := Scalar.muli v774 c1_i32_563
  let v777 : BitVec 32 := Scalar.addi c0_i32_564 v776
  v777.toNat
def k0_dev50 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_568 : BitVec 32 := 19#32
  let v785 : BitVec 32 := Scalar.addi v2 c19_i32_568
  let c32_i32_569 : BitVec 32 := 32#32
  let c0_i32_570 : BitVec 32 := 0#32
  let v786 : BitVec 1 := Scalar.cmpi .eq c32_i32_569 c0_i32_570
  let c1_i32_571 : BitVec 32 := 1#32
  let v787 : BitVec 32 := Scalar.select v786 c1_i32_571 c32_i32_569
  let v788 : BitVec 32 := Scalar.remsi v785 v787
  let c0_i32_573 : BitVec 32 := 0#32
  let v790 : BitVec 1 := Scalar.cmpi .slt v788 c0_i32_573
  let c0_i32_574 : BitVec 32 := 0#32
  let v791 : BitVec 1 := Scalar.cmpi .slt v787 c0_i32_574
  let v792 : BitVec 1 := Scalar.xori v790 v791
  let c0_i32_572 : BitVec 32 := 0#32
  let v789 : BitVec 1 := Scalar.cmpi .ne v788 c0_i32_572
  let v793 : BitVec 1 := Scalar.andi v792 v789
  let v794 : BitVec 32 := Scalar.addi v788 v787
  let v795 : BitVec 32 := Scalar.select v793 v794 v788
  let c1_i32_579 : BitVec 32 := 1#32
  let v797 : BitVec 32 := Scalar.muli v795 c1_i32_579
  let v798 : BitVec 32 := Scalar.addi c0_i32_580 v797
  v798.toNat
def k0_dev51 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_584 : BitVec 32 := 20#32
  let v806 : BitVec 32 := Scalar.addi v2 c20_i32_584
  let c32_i32_585 : BitVec 32 := 32#32
  let c0_i32_586 : BitVec 32 := 0#32
  let v807 : BitVec 1 := Scalar.cmpi .eq c32_i32_585 c0_i32_586
  let c1_i32_587 : BitVec 32 := 1#32
  let v808 : BitVec 32 := Scalar.select v807 c1_i32_587 c32_i32_585
  let v809 : BitVec 32 := Scalar.remsi v806 v808
  let c0_i32_589 : BitVec 32 := 0#32
  let v811 : BitVec 1 := Scalar.cmpi .slt v809 c0_i32_589
  let c0_i32_590 : BitVec 32 := 0#32
  let v812 : BitVec 1 := Scalar.cmpi .slt v808 c0_i32_590
  let v813 : BitVec 1 := Scalar.xori v811 v812
  let c0_i32_588 : BitVec 32 := 0#32
  let v810 : BitVec 1 := Scalar.cmpi .ne v809 c0_i32_588
  let v814 : BitVec 1 := Scalar.andi v813 v810
  let v815 : BitVec 32 := Scalar.addi v809 v808
  let v816 : BitVec 32 := Scalar.select v814 v815 v809
  let c1_i32_595 : BitVec 32 := 1#32
  let v818 : BitVec 32 := Scalar.muli v816 c1_i32_595
  let v819 : BitVec 32 := Scalar.addi c0_i32_596 v818
  v819.toNat
def k0_dev52 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_600 : BitVec 32 := 21#32
  let v827 : BitVec 32 := Scalar.addi v2 c21_i32_600
  let c32_i32_601 : BitVec 32 := 32#32
  let c0_i32_602 : BitVec 32 := 0#32
  let v828 : BitVec 1 := Scalar.cmpi .eq c32_i32_601 c0_i32_602
  let c1_i32_603 : BitVec 32 := 1#32
  let v829 : BitVec 32 := Scalar.select v828 c1_i32_603 c32_i32_601
  let v830 : BitVec 32 := Scalar.remsi v827 v829
  let c0_i32_605 : BitVec 32 := 0#32
  let v832 : BitVec 1 := Scalar.cmpi .slt v830 c0_i32_605
  let c0_i32_606 : BitVec 32 := 0#32
  let v833 : BitVec 1 := Scalar.cmpi .slt v829 c0_i32_606
  let v834 : BitVec 1 := Scalar.xori v832 v833
  let c0_i32_604 : BitVec 32 := 0#32
  let v831 : BitVec 1 := Scalar.cmpi .ne v830 c0_i32_604
  let v835 : BitVec 1 := Scalar.andi v834 v831
  let v836 : BitVec 32 := Scalar.addi v830 v829
  let v837 : BitVec 32 := Scalar.select v835 v836 v830
  let c1_i32_611 : BitVec 32 := 1#32
  let v839 : BitVec 32 := Scalar.muli v837 c1_i32_611
  let v840 : BitVec 32 := Scalar.addi c0_i32_612 v839
  v840.toNat
def k0_dev53 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_616 : BitVec 32 := 22#32
  let v848 : BitVec 32 := Scalar.addi v2 c22_i32_616
  let c32_i32_617 : BitVec 32 := 32#32
  let c0_i32_618 : BitVec 32 := 0#32
  let v849 : BitVec 1 := Scalar.cmpi .eq c32_i32_617 c0_i32_618
  let c1_i32_619 : BitVec 32 := 1#32
  let v850 : BitVec 32 := Scalar.select v849 c1_i32_619 c32_i32_617
  let v851 : BitVec 32 := Scalar.remsi v848 v850
  let c0_i32_621 : BitVec 32 := 0#32
  let v853 : BitVec 1 := Scalar.cmpi .slt v851 c0_i32_621
  let c0_i32_622 : BitVec 32 := 0#32
  let v854 : BitVec 1 := Scalar.cmpi .slt v850 c0_i32_622
  let v855 : BitVec 1 := Scalar.xori v853 v854
  let c0_i32_620 : BitVec 32 := 0#32
  let v852 : BitVec 1 := Scalar.cmpi .ne v851 c0_i32_620
  let v856 : BitVec 1 := Scalar.andi v855 v852
  let v857 : BitVec 32 := Scalar.addi v851 v850
  let v858 : BitVec 32 := Scalar.select v856 v857 v851
  let c1_i32_627 : BitVec 32 := 1#32
  let v860 : BitVec 32 := Scalar.muli v858 c1_i32_627
  let v861 : BitVec 32 := Scalar.addi c0_i32_628 v860
  v861.toNat
def k0_dev54 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_632 : BitVec 32 := 23#32
  let v869 : BitVec 32 := Scalar.addi v2 c23_i32_632
  let c32_i32_633 : BitVec 32 := 32#32
  let c0_i32_634 : BitVec 32 := 0#32
  let v870 : BitVec 1 := Scalar.cmpi .eq c32_i32_633 c0_i32_634
  let c1_i32_635 : BitVec 32 := 1#32
  let v871 : BitVec 32 := Scalar.select v870 c1_i32_635 c32_i32_633
  let v872 : BitVec 32 := Scalar.remsi v869 v871
  let c0_i32_637 : BitVec 32 := 0#32
  let v874 : BitVec 1 := Scalar.cmpi .slt v872 c0_i32_637
  let c0_i32_638 : BitVec 32 := 0#32
  let v875 : BitVec 1 := Scalar.cmpi .slt v871 c0_i32_638
  let v876 : BitVec 1 := Scalar.xori v874 v875
  let c0_i32_636 : BitVec 32 := 0#32
  let v873 : BitVec 1 := Scalar.cmpi .ne v872 c0_i32_636
  let v877 : BitVec 1 := Scalar.andi v876 v873
  let v878 : BitVec 32 := Scalar.addi v872 v871
  let v879 : BitVec 32 := Scalar.select v877 v878 v872
  let c1_i32_643 : BitVec 32 := 1#32
  let v881 : BitVec 32 := Scalar.muli v879 c1_i32_643
  let v882 : BitVec 32 := Scalar.addi c0_i32_644 v881
  v882.toNat
def k0_dev55 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_648 : BitVec 32 := 24#32
  let v890 : BitVec 32 := Scalar.addi v2 c24_i32_648
  let c32_i32_649 : BitVec 32 := 32#32
  let c0_i32_650 : BitVec 32 := 0#32
  let v891 : BitVec 1 := Scalar.cmpi .eq c32_i32_649 c0_i32_650
  let c1_i32_651 : BitVec 32 := 1#32
  let v892 : BitVec 32 := Scalar.select v891 c1_i32_651 c32_i32_649
  let v893 : BitVec 32 := Scalar.remsi v890 v892
  let c0_i32_653 : BitVec 32 := 0#32
  let v895 : BitVec 1 := Scalar.cmpi .slt v893 c0_i32_653
  let c0_i32_654 : BitVec 32 := 0#32
  let v896 : BitVec 1 := Scalar.cmpi .slt v892 c0_i32_654
  let v897 : BitVec 1 := Scalar.xori v895 v896
  let c0_i32_652 : BitVec 32 := 0#32
  let v894 : BitVec 1 := Scalar.cmpi .ne v893 c0_i32_652
  let v898 : BitVec 1 := Scalar.andi v897 v894
  let v899 : BitVec 32 := Scalar.addi v893 v892
  let v900 : BitVec 32 := Scalar.select v898 v899 v893
  let c1_i32_659 : BitVec 32 := 1#32
  let v902 : BitVec 32 := Scalar.muli v900 c1_i32_659
  let v903 : BitVec 32 := Scalar.addi c0_i32_660 v902
  v903.toNat
def k0_dev56 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_664 : BitVec 32 := 25#32
  let v911 : BitVec 32 := Scalar.addi v2 c25_i32_664
  let c32_i32_665 : BitVec 32 := 32#32
  let c0_i32_666 : BitVec 32 := 0#32
  let v912 : BitVec 1 := Scalar.cmpi .eq c32_i32_665 c0_i32_666
  let c1_i32_667 : BitVec 32 := 1#32
  let v913 : BitVec 32 := Scalar.select v912 c1_i32_667 c32_i32_665
  let v914 : BitVec 32 := Scalar.remsi v911 v913
  let c0_i32_669 : BitVec 32 := 0#32
  let v916 : BitVec 1 := Scalar.cmpi .slt v914 c0_i32_669
  let c0_i32_670 : BitVec 32 := 0#32
  let v917 : BitVec 1 := Scalar.cmpi .slt v913 c0_i32_670
  let v918 : BitVec 1 := Scalar.xori v916 v917
  let c0_i32_668 : BitVec 32 := 0#32
  let v915 : BitVec 1 := Scalar.cmpi .ne v914 c0_i32_668
  let v919 : BitVec 1 := Scalar.andi v918 v915
  let v920 : BitVec 32 := Scalar.addi v914 v913
  let v921 : BitVec 32 := Scalar.select v919 v920 v914
  let c1_i32_675 : BitVec 32 := 1#32
  let v923 : BitVec 32 := Scalar.muli v921 c1_i32_675
  let v924 : BitVec 32 := Scalar.addi c0_i32_676 v923
  v924.toNat
def k0_dev57 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_680 : BitVec 32 := 26#32
  let v932 : BitVec 32 := Scalar.addi v2 c26_i32_680
  let c32_i32_681 : BitVec 32 := 32#32
  let c0_i32_682 : BitVec 32 := 0#32
  let v933 : BitVec 1 := Scalar.cmpi .eq c32_i32_681 c0_i32_682
  let c1_i32_683 : BitVec 32 := 1#32
  let v934 : BitVec 32 := Scalar.select v933 c1_i32_683 c32_i32_681
  let v935 : BitVec 32 := Scalar.remsi v932 v934
  let c0_i32_685 : BitVec 32 := 0#32
  let v937 : BitVec 1 := Scalar.cmpi .slt v935 c0_i32_685
  let c0_i32_686 : BitVec 32 := 0#32
  let v938 : BitVec 1 := Scalar.cmpi .slt v934 c0_i32_686
  let v939 : BitVec 1 := Scalar.xori v937 v938
  let c0_i32_684 : BitVec 32 := 0#32
  let v936 : BitVec 1 := Scalar.cmpi .ne v935 c0_i32_684
  let v940 : BitVec 1 := Scalar.andi v939 v936
  let v941 : BitVec 32 := Scalar.addi v935 v934
  let v942 : BitVec 32 := Scalar.select v940 v941 v935
  let c1_i32_691 : BitVec 32 := 1#32
  let v944 : BitVec 32 := Scalar.muli v942 c1_i32_691
  let v945 : BitVec 32 := Scalar.addi c0_i32_692 v944
  v945.toNat
def k0_dev58 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_696 : BitVec 32 := 27#32
  let v953 : BitVec 32 := Scalar.addi v2 c27_i32_696
  let c32_i32_697 : BitVec 32 := 32#32
  let c0_i32_698 : BitVec 32 := 0#32
  let v954 : BitVec 1 := Scalar.cmpi .eq c32_i32_697 c0_i32_698
  let c1_i32_699 : BitVec 32 := 1#32
  let v955 : BitVec 32 := Scalar.select v954 c1_i32_699 c32_i32_697
  let v956 : BitVec 32 := Scalar.remsi v953 v955
  let c0_i32_701 : BitVec 32 := 0#32
  let v958 : BitVec 1 := Scalar.cmpi .slt v956 c0_i32_701
  let c0_i32_702 : BitVec 32 := 0#32
  let v959 : BitVec 1 := Scalar.cmpi .slt v955 c0_i32_702
  let v960 : BitVec 1 := Scalar.xori v958 v959
  let c0_i32_700 : BitVec 32 := 0#32
  let v957 : BitVec 1 := Scalar.cmpi .ne v956 c0_i32_700
  let v961 : BitVec 1 := Scalar.andi v960 v957
  let v962 : BitVec 32 := Scalar.addi v956 v955
  let v963 : BitVec 32 := Scalar.select v961 v962 v956
  let c1_i32_707 : BitVec 32 := 1#32
  let v965 : BitVec 32 := Scalar.muli v963 c1_i32_707
  let v966 : BitVec 32 := Scalar.addi c0_i32_708 v965
  v966.toNat
def k0_dev59 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_712 : BitVec 32 := 28#32
  let v974 : BitVec 32 := Scalar.addi v2 c28_i32_712
  let c32_i32_713 : BitVec 32 := 32#32
  let c0_i32_714 : BitVec 32 := 0#32
  let v975 : BitVec 1 := Scalar.cmpi .eq c32_i32_713 c0_i32_714
  let c1_i32_715 : BitVec 32 := 1#32
  let v976 : BitVec 32 := Scalar.select v975 c1_i32_715 c32_i32_713
  let v977 : BitVec 32 := Scalar.remsi v974 v976
  let c0_i32_717 : BitVec 32 := 0#32
  let v979 : BitVec 1 := Scalar.cmpi .slt v977 c0_i32_717
  let c0_i32_718 : BitVec 32 := 0#32
  let v980 : BitVec 1 := Scalar.cmpi .slt v976 c0_i32_718
  let v981 : BitVec 1 := Scalar.xori v979 v980
  let c0_i32_716 : BitVec 32 := 0#32
  let v978 : BitVec 1 := Scalar.cmpi .ne v977 c0_i32_716
  let v982 : BitVec 1 := Scalar.andi v981 v978
  let v983 : BitVec 32 := Scalar.addi v977 v976
  let v984 : BitVec 32 := Scalar.select v982 v983 v977
  let c1_i32_723 : BitVec 32 := 1#32
  let v986 : BitVec 32 := Scalar.muli v984 c1_i32_723
  let v987 : BitVec 32 := Scalar.addi c0_i32_724 v986
  v987.toNat
def k0_dev60 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_728 : BitVec 32 := 29#32
  let v995 : BitVec 32 := Scalar.addi v2 c29_i32_728
  let c32_i32_729 : BitVec 32 := 32#32
  let c0_i32_730 : BitVec 32 := 0#32
  let v996 : BitVec 1 := Scalar.cmpi .eq c32_i32_729 c0_i32_730
  let c1_i32_731 : BitVec 32 := 1#32
  let v997 : BitVec 32 := Scalar.select v996 c1_i32_731 c32_i32_729
  let v998 : BitVec 32 := Scalar.remsi v995 v997
  let c0_i32_733 : BitVec 32 := 0#32
  let v1000 : BitVec 1 := Scalar.cmpi .slt v998 c0_i32_733
  let c0_i32_734 : BitVec 32 := 0#32
  let v1001 : BitVec 1 := Scalar.cmpi .slt v997 c0_i32_734
  let v1002 : BitVec 1 := Scalar.xori v1000 v1001
  let c0_i32_732 : BitVec 32 := 0#32
  let v999 : BitVec 1 := Scalar.cmpi .ne v998 c0_i32_732
  let v1003 : BitVec 1 := Scalar.andi v1002 v999
  let v1004 : BitVec 32 := Scalar.addi v998 v997
  let v1005 : BitVec 32 := Scalar.select v1003 v1004 v998
  let c1_i32_739 : BitVec 32 := 1#32
  let v1007 : BitVec 32 := Scalar.muli v1005 c1_i32_739
  let v1008 : BitVec 32 := Scalar.addi c0_i32_740 v1007
  v1008.toNat
def k0_dev61 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_744 : BitVec 32 := 30#32
  let v1016 : BitVec 32 := Scalar.addi v2 c30_i32_744
  let c32_i32_745 : BitVec 32 := 32#32
  let c0_i32_746 : BitVec 32 := 0#32
  let v1017 : BitVec 1 := Scalar.cmpi .eq c32_i32_745 c0_i32_746
  let c1_i32_747 : BitVec 32 := 1#32
  let v1018 : BitVec 32 := Scalar.select v1017 c1_i32_747 c32_i32_745
  let v1019 : BitVec 32 := Scalar.remsi v1016 v1018
  let c0_i32_749 : BitVec 32 := 0#32
  let v1021 : BitVec 1 := Scalar.cmpi .slt v1019 c0_i32_749
  let c0_i32_750 : BitVec 32 := 0#32
  let v1022 : BitVec 1 := Scalar.cmpi .slt v1018 c0_i32_750
  let v1023 : BitVec 1 := Scalar.xori v1021 v1022
  let c0_i32_748 : BitVec 32 := 0#32
  let v1020 : BitVec 1 := Scalar.cmpi .ne v1019 c0_i32_748
  let v1024 : BitVec 1 := Scalar.andi v1023 v1020
  let v1025 : BitVec 32 := Scalar.addi v1019 v1018
  let v1026 : BitVec 32 := Scalar.select v1024 v1025 v1019
  let c1_i32_755 : BitVec 32 := 1#32
  let v1028 : BitVec 32 := Scalar.muli v1026 c1_i32_755
  let v1029 : BitVec 32 := Scalar.addi c0_i32_756 v1028
  v1029.toNat
def k0_dev62 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_760 : BitVec 32 := 31#32
  let v1037 : BitVec 32 := Scalar.addi v2 c31_i32_760
  let c32_i32_761 : BitVec 32 := 32#32
  let c0_i32_762 : BitVec 32 := 0#32
  let v1038 : BitVec 1 := Scalar.cmpi .eq c32_i32_761 c0_i32_762
  let c1_i32_763 : BitVec 32 := 1#32
  let v1039 : BitVec 32 := Scalar.select v1038 c1_i32_763 c32_i32_761
  let v1040 : BitVec 32 := Scalar.remsi v1037 v1039
  let c0_i32_765 : BitVec 32 := 0#32
  let v1042 : BitVec 1 := Scalar.cmpi .slt v1040 c0_i32_765
  let c0_i32_766 : BitVec 32 := 0#32
  let v1043 : BitVec 1 := Scalar.cmpi .slt v1039 c0_i32_766
  let v1044 : BitVec 1 := Scalar.xori v1042 v1043
  let c0_i32_764 : BitVec 32 := 0#32
  let v1041 : BitVec 1 := Scalar.cmpi .ne v1040 c0_i32_764
  let v1045 : BitVec 1 := Scalar.andi v1044 v1041
  let v1046 : BitVec 32 := Scalar.addi v1040 v1039
  let v1047 : BitVec 32 := Scalar.select v1045 v1046 v1040
  let c1_i32_771 : BitVec 32 := 1#32
  let v1049 : BitVec 32 := Scalar.muli v1047 c1_i32_771
  let v1050 : BitVec 32 := Scalar.addi c0_i32_772 v1049
  v1050.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_776 : BitVec 32 := 16#32
  let v1058 : BitVec 32 := Scalar.muli v2 c16_i32_776
  let v1059 : Index := Scalar.indexCast v1058
  let c0 : Index := 0#32
  ![v1059.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1161 : BitVec 32 := 16#32
  let v1421 : BitVec 32 := Scalar.muli v2 c16_i32_1161
  let c0_i32_1166 : BitVec 32 := 0#32
  ![v1421.toNat, 0]
def k0_dev63 (d0 : Dev nD) : Nat :=
  let c0_i32_1165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1153 : BitVec 32 := 1#32
  let v1409 : BitVec 32 := Scalar.addi v2 c1_i32_1153
  let c32_i32_1154 : BitVec 32 := 32#32
  let c0_i32_1155 : BitVec 32 := 0#32
  let v1410 : BitVec 1 := Scalar.cmpi .eq c32_i32_1154 c0_i32_1155
  let c1_i32_1156 : BitVec 32 := 1#32
  let v1411 : BitVec 32 := Scalar.select v1410 c1_i32_1156 c32_i32_1154
  let v1412 : BitVec 32 := Scalar.remsi v1409 v1411
  let c0_i32_1158 : BitVec 32 := 0#32
  let v1414 : BitVec 1 := Scalar.cmpi .slt v1412 c0_i32_1158
  let c0_i32_1159 : BitVec 32 := 0#32
  let v1415 : BitVec 1 := Scalar.cmpi .slt v1411 c0_i32_1159
  let v1416 : BitVec 1 := Scalar.xori v1414 v1415
  let c0_i32_1157 : BitVec 32 := 0#32
  let v1413 : BitVec 1 := Scalar.cmpi .ne v1412 c0_i32_1157
  let v1417 : BitVec 1 := Scalar.andi v1416 v1413
  let v1418 : BitVec 32 := Scalar.addi v1412 v1411
  let v1419 : BitVec 32 := Scalar.select v1417 v1418 v1412
  let c1_i32_1164 : BitVec 32 := 1#32
  let v1422 : BitVec 32 := Scalar.muli v1419 c1_i32_1164
  let v1423 : BitVec 32 := Scalar.addi c0_i32_1165 v1422
  v1423.toNat
def k0_dev64 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1168 : BitVec 32 := 2#32
  let v1430 : BitVec 32 := Scalar.addi v2 c2_i32_1168
  let c32_i32_1169 : BitVec 32 := 32#32
  let c0_i32_1170 : BitVec 32 := 0#32
  let v1431 : BitVec 1 := Scalar.cmpi .eq c32_i32_1169 c0_i32_1170
  let c1_i32_1171 : BitVec 32 := 1#32
  let v1432 : BitVec 32 := Scalar.select v1431 c1_i32_1171 c32_i32_1169
  let v1433 : BitVec 32 := Scalar.remsi v1430 v1432
  let c0_i32_1173 : BitVec 32 := 0#32
  let v1435 : BitVec 1 := Scalar.cmpi .slt v1433 c0_i32_1173
  let c0_i32_1174 : BitVec 32 := 0#32
  let v1436 : BitVec 1 := Scalar.cmpi .slt v1432 c0_i32_1174
  let v1437 : BitVec 1 := Scalar.xori v1435 v1436
  let c0_i32_1172 : BitVec 32 := 0#32
  let v1434 : BitVec 1 := Scalar.cmpi .ne v1433 c0_i32_1172
  let v1438 : BitVec 1 := Scalar.andi v1437 v1434
  let v1439 : BitVec 32 := Scalar.addi v1433 v1432
  let v1440 : BitVec 32 := Scalar.select v1438 v1439 v1433
  let c1_i32_1179 : BitVec 32 := 1#32
  let v1443 : BitVec 32 := Scalar.muli v1440 c1_i32_1179
  let v1444 : BitVec 32 := Scalar.addi c0_i32_1180 v1443
  v1444.toNat
def k0_dev65 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1183 : BitVec 32 := 3#32
  let v1451 : BitVec 32 := Scalar.addi v2 c3_i32_1183
  let c32_i32_1184 : BitVec 32 := 32#32
  let c0_i32_1185 : BitVec 32 := 0#32
  let v1452 : BitVec 1 := Scalar.cmpi .eq c32_i32_1184 c0_i32_1185
  let c1_i32_1186 : BitVec 32 := 1#32
  let v1453 : BitVec 32 := Scalar.select v1452 c1_i32_1186 c32_i32_1184
  let v1454 : BitVec 32 := Scalar.remsi v1451 v1453
  let c0_i32_1188 : BitVec 32 := 0#32
  let v1456 : BitVec 1 := Scalar.cmpi .slt v1454 c0_i32_1188
  let c0_i32_1189 : BitVec 32 := 0#32
  let v1457 : BitVec 1 := Scalar.cmpi .slt v1453 c0_i32_1189
  let v1458 : BitVec 1 := Scalar.xori v1456 v1457
  let c0_i32_1187 : BitVec 32 := 0#32
  let v1455 : BitVec 1 := Scalar.cmpi .ne v1454 c0_i32_1187
  let v1459 : BitVec 1 := Scalar.andi v1458 v1455
  let v1460 : BitVec 32 := Scalar.addi v1454 v1453
  let v1461 : BitVec 32 := Scalar.select v1459 v1460 v1454
  let c1_i32_1194 : BitVec 32 := 1#32
  let v1464 : BitVec 32 := Scalar.muli v1461 c1_i32_1194
  let v1465 : BitVec 32 := Scalar.addi c0_i32_1195 v1464
  v1465.toNat
def k0_dev66 (d0 : Dev nD) : Nat :=
  let c0_i32_1210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1198 : BitVec 32 := 4#32
  let v1472 : BitVec 32 := Scalar.addi v2 c4_i32_1198
  let c32_i32_1199 : BitVec 32 := 32#32
  let c0_i32_1200 : BitVec 32 := 0#32
  let v1473 : BitVec 1 := Scalar.cmpi .eq c32_i32_1199 c0_i32_1200
  let c1_i32_1201 : BitVec 32 := 1#32
  let v1474 : BitVec 32 := Scalar.select v1473 c1_i32_1201 c32_i32_1199
  let v1475 : BitVec 32 := Scalar.remsi v1472 v1474
  let c0_i32_1203 : BitVec 32 := 0#32
  let v1477 : BitVec 1 := Scalar.cmpi .slt v1475 c0_i32_1203
  let c0_i32_1204 : BitVec 32 := 0#32
  let v1478 : BitVec 1 := Scalar.cmpi .slt v1474 c0_i32_1204
  let v1479 : BitVec 1 := Scalar.xori v1477 v1478
  let c0_i32_1202 : BitVec 32 := 0#32
  let v1476 : BitVec 1 := Scalar.cmpi .ne v1475 c0_i32_1202
  let v1480 : BitVec 1 := Scalar.andi v1479 v1476
  let v1481 : BitVec 32 := Scalar.addi v1475 v1474
  let v1482 : BitVec 32 := Scalar.select v1480 v1481 v1475
  let c1_i32_1209 : BitVec 32 := 1#32
  let v1485 : BitVec 32 := Scalar.muli v1482 c1_i32_1209
  let v1486 : BitVec 32 := Scalar.addi c0_i32_1210 v1485
  v1486.toNat
def k0_dev67 (d0 : Dev nD) : Nat :=
  let c0_i32_1225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1213 : BitVec 32 := 5#32
  let v1493 : BitVec 32 := Scalar.addi v2 c5_i32_1213
  let c32_i32_1214 : BitVec 32 := 32#32
  let c0_i32_1215 : BitVec 32 := 0#32
  let v1494 : BitVec 1 := Scalar.cmpi .eq c32_i32_1214 c0_i32_1215
  let c1_i32_1216 : BitVec 32 := 1#32
  let v1495 : BitVec 32 := Scalar.select v1494 c1_i32_1216 c32_i32_1214
  let v1496 : BitVec 32 := Scalar.remsi v1493 v1495
  let c0_i32_1218 : BitVec 32 := 0#32
  let v1498 : BitVec 1 := Scalar.cmpi .slt v1496 c0_i32_1218
  let c0_i32_1219 : BitVec 32 := 0#32
  let v1499 : BitVec 1 := Scalar.cmpi .slt v1495 c0_i32_1219
  let v1500 : BitVec 1 := Scalar.xori v1498 v1499
  let c0_i32_1217 : BitVec 32 := 0#32
  let v1497 : BitVec 1 := Scalar.cmpi .ne v1496 c0_i32_1217
  let v1501 : BitVec 1 := Scalar.andi v1500 v1497
  let v1502 : BitVec 32 := Scalar.addi v1496 v1495
  let v1503 : BitVec 32 := Scalar.select v1501 v1502 v1496
  let c1_i32_1224 : BitVec 32 := 1#32
  let v1506 : BitVec 32 := Scalar.muli v1503 c1_i32_1224
  let v1507 : BitVec 32 := Scalar.addi c0_i32_1225 v1506
  v1507.toNat
def k0_dev68 (d0 : Dev nD) : Nat :=
  let c0_i32_1240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1228 : BitVec 32 := 6#32
  let v1514 : BitVec 32 := Scalar.addi v2 c6_i32_1228
  let c32_i32_1229 : BitVec 32 := 32#32
  let c0_i32_1230 : BitVec 32 := 0#32
  let v1515 : BitVec 1 := Scalar.cmpi .eq c32_i32_1229 c0_i32_1230
  let c1_i32_1231 : BitVec 32 := 1#32
  let v1516 : BitVec 32 := Scalar.select v1515 c1_i32_1231 c32_i32_1229
  let v1517 : BitVec 32 := Scalar.remsi v1514 v1516
  let c0_i32_1233 : BitVec 32 := 0#32
  let v1519 : BitVec 1 := Scalar.cmpi .slt v1517 c0_i32_1233
  let c0_i32_1234 : BitVec 32 := 0#32
  let v1520 : BitVec 1 := Scalar.cmpi .slt v1516 c0_i32_1234
  let v1521 : BitVec 1 := Scalar.xori v1519 v1520
  let c0_i32_1232 : BitVec 32 := 0#32
  let v1518 : BitVec 1 := Scalar.cmpi .ne v1517 c0_i32_1232
  let v1522 : BitVec 1 := Scalar.andi v1521 v1518
  let v1523 : BitVec 32 := Scalar.addi v1517 v1516
  let v1524 : BitVec 32 := Scalar.select v1522 v1523 v1517
  let c1_i32_1239 : BitVec 32 := 1#32
  let v1527 : BitVec 32 := Scalar.muli v1524 c1_i32_1239
  let v1528 : BitVec 32 := Scalar.addi c0_i32_1240 v1527
  v1528.toNat
def k0_dev69 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1243 : BitVec 32 := 7#32
  let v1535 : BitVec 32 := Scalar.addi v2 c7_i32_1243
  let c32_i32_1244 : BitVec 32 := 32#32
  let c0_i32_1245 : BitVec 32 := 0#32
  let v1536 : BitVec 1 := Scalar.cmpi .eq c32_i32_1244 c0_i32_1245
  let c1_i32_1246 : BitVec 32 := 1#32
  let v1537 : BitVec 32 := Scalar.select v1536 c1_i32_1246 c32_i32_1244
  let v1538 : BitVec 32 := Scalar.remsi v1535 v1537
  let c0_i32_1248 : BitVec 32 := 0#32
  let v1540 : BitVec 1 := Scalar.cmpi .slt v1538 c0_i32_1248
  let c0_i32_1249 : BitVec 32 := 0#32
  let v1541 : BitVec 1 := Scalar.cmpi .slt v1537 c0_i32_1249
  let v1542 : BitVec 1 := Scalar.xori v1540 v1541
  let c0_i32_1247 : BitVec 32 := 0#32
  let v1539 : BitVec 1 := Scalar.cmpi .ne v1538 c0_i32_1247
  let v1543 : BitVec 1 := Scalar.andi v1542 v1539
  let v1544 : BitVec 32 := Scalar.addi v1538 v1537
  let v1545 : BitVec 32 := Scalar.select v1543 v1544 v1538
  let c1_i32_1254 : BitVec 32 := 1#32
  let v1548 : BitVec 32 := Scalar.muli v1545 c1_i32_1254
  let v1549 : BitVec 32 := Scalar.addi c0_i32_1255 v1548
  v1549.toNat
def k0_dev70 (d0 : Dev nD) : Nat :=
  let c0_i32_1270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1258 : BitVec 32 := 8#32
  let v1556 : BitVec 32 := Scalar.addi v2 c8_i32_1258
  let c32_i32_1259 : BitVec 32 := 32#32
  let c0_i32_1260 : BitVec 32 := 0#32
  let v1557 : BitVec 1 := Scalar.cmpi .eq c32_i32_1259 c0_i32_1260
  let c1_i32_1261 : BitVec 32 := 1#32
  let v1558 : BitVec 32 := Scalar.select v1557 c1_i32_1261 c32_i32_1259
  let v1559 : BitVec 32 := Scalar.remsi v1556 v1558
  let c0_i32_1263 : BitVec 32 := 0#32
  let v1561 : BitVec 1 := Scalar.cmpi .slt v1559 c0_i32_1263
  let c0_i32_1264 : BitVec 32 := 0#32
  let v1562 : BitVec 1 := Scalar.cmpi .slt v1558 c0_i32_1264
  let v1563 : BitVec 1 := Scalar.xori v1561 v1562
  let c0_i32_1262 : BitVec 32 := 0#32
  let v1560 : BitVec 1 := Scalar.cmpi .ne v1559 c0_i32_1262
  let v1564 : BitVec 1 := Scalar.andi v1563 v1560
  let v1565 : BitVec 32 := Scalar.addi v1559 v1558
  let v1566 : BitVec 32 := Scalar.select v1564 v1565 v1559
  let c1_i32_1269 : BitVec 32 := 1#32
  let v1569 : BitVec 32 := Scalar.muli v1566 c1_i32_1269
  let v1570 : BitVec 32 := Scalar.addi c0_i32_1270 v1569
  v1570.toNat
def k0_dev71 (d0 : Dev nD) : Nat :=
  let c0_i32_1285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1577 : BitVec 32 := Scalar.addi v2 c9_i32_1273
  let c32_i32_1274 : BitVec 32 := 32#32
  let c0_i32_1275 : BitVec 32 := 0#32
  let v1578 : BitVec 1 := Scalar.cmpi .eq c32_i32_1274 c0_i32_1275
  let c1_i32_1276 : BitVec 32 := 1#32
  let v1579 : BitVec 32 := Scalar.select v1578 c1_i32_1276 c32_i32_1274
  let v1580 : BitVec 32 := Scalar.remsi v1577 v1579
  let c0_i32_1278 : BitVec 32 := 0#32
  let v1582 : BitVec 1 := Scalar.cmpi .slt v1580 c0_i32_1278
  let c0_i32_1279 : BitVec 32 := 0#32
  let v1583 : BitVec 1 := Scalar.cmpi .slt v1579 c0_i32_1279
  let v1584 : BitVec 1 := Scalar.xori v1582 v1583
  let c0_i32_1277 : BitVec 32 := 0#32
  let v1581 : BitVec 1 := Scalar.cmpi .ne v1580 c0_i32_1277
  let v1585 : BitVec 1 := Scalar.andi v1584 v1581
  let v1586 : BitVec 32 := Scalar.addi v1580 v1579
  let v1587 : BitVec 32 := Scalar.select v1585 v1586 v1580
  let c1_i32_1284 : BitVec 32 := 1#32
  let v1590 : BitVec 32 := Scalar.muli v1587 c1_i32_1284
  let v1591 : BitVec 32 := Scalar.addi c0_i32_1285 v1590
  v1591.toNat
def k0_dev72 (d0 : Dev nD) : Nat :=
  let c0_i32_1300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1288 : BitVec 32 := 10#32
  let v1598 : BitVec 32 := Scalar.addi v2 c10_i32_1288
  let c32_i32_1289 : BitVec 32 := 32#32
  let c0_i32_1290 : BitVec 32 := 0#32
  let v1599 : BitVec 1 := Scalar.cmpi .eq c32_i32_1289 c0_i32_1290
  let c1_i32_1291 : BitVec 32 := 1#32
  let v1600 : BitVec 32 := Scalar.select v1599 c1_i32_1291 c32_i32_1289
  let v1601 : BitVec 32 := Scalar.remsi v1598 v1600
  let c0_i32_1293 : BitVec 32 := 0#32
  let v1603 : BitVec 1 := Scalar.cmpi .slt v1601 c0_i32_1293
  let c0_i32_1294 : BitVec 32 := 0#32
  let v1604 : BitVec 1 := Scalar.cmpi .slt v1600 c0_i32_1294
  let v1605 : BitVec 1 := Scalar.xori v1603 v1604
  let c0_i32_1292 : BitVec 32 := 0#32
  let v1602 : BitVec 1 := Scalar.cmpi .ne v1601 c0_i32_1292
  let v1606 : BitVec 1 := Scalar.andi v1605 v1602
  let v1607 : BitVec 32 := Scalar.addi v1601 v1600
  let v1608 : BitVec 32 := Scalar.select v1606 v1607 v1601
  let c1_i32_1299 : BitVec 32 := 1#32
  let v1611 : BitVec 32 := Scalar.muli v1608 c1_i32_1299
  let v1612 : BitVec 32 := Scalar.addi c0_i32_1300 v1611
  v1612.toNat
def k0_dev73 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1303 : BitVec 32 := 11#32
  let v1619 : BitVec 32 := Scalar.addi v2 c11_i32_1303
  let c32_i32_1304 : BitVec 32 := 32#32
  let c0_i32_1305 : BitVec 32 := 0#32
  let v1620 : BitVec 1 := Scalar.cmpi .eq c32_i32_1304 c0_i32_1305
  let c1_i32_1306 : BitVec 32 := 1#32
  let v1621 : BitVec 32 := Scalar.select v1620 c1_i32_1306 c32_i32_1304
  let v1622 : BitVec 32 := Scalar.remsi v1619 v1621
  let c0_i32_1308 : BitVec 32 := 0#32
  let v1624 : BitVec 1 := Scalar.cmpi .slt v1622 c0_i32_1308
  let c0_i32_1309 : BitVec 32 := 0#32
  let v1625 : BitVec 1 := Scalar.cmpi .slt v1621 c0_i32_1309
  let v1626 : BitVec 1 := Scalar.xori v1624 v1625
  let c0_i32_1307 : BitVec 32 := 0#32
  let v1623 : BitVec 1 := Scalar.cmpi .ne v1622 c0_i32_1307
  let v1627 : BitVec 1 := Scalar.andi v1626 v1623
  let v1628 : BitVec 32 := Scalar.addi v1622 v1621
  let v1629 : BitVec 32 := Scalar.select v1627 v1628 v1622
  let c1_i32_1314 : BitVec 32 := 1#32
  let v1632 : BitVec 32 := Scalar.muli v1629 c1_i32_1314
  let v1633 : BitVec 32 := Scalar.addi c0_i32_1315 v1632
  v1633.toNat
def k0_dev74 (d0 : Dev nD) : Nat :=
  let c0_i32_1330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1318 : BitVec 32 := 12#32
  let v1640 : BitVec 32 := Scalar.addi v2 c12_i32_1318
  let c32_i32_1319 : BitVec 32 := 32#32
  let c0_i32_1320 : BitVec 32 := 0#32
  let v1641 : BitVec 1 := Scalar.cmpi .eq c32_i32_1319 c0_i32_1320
  let c1_i32_1321 : BitVec 32 := 1#32
  let v1642 : BitVec 32 := Scalar.select v1641 c1_i32_1321 c32_i32_1319
  let v1643 : BitVec 32 := Scalar.remsi v1640 v1642
  let c0_i32_1323 : BitVec 32 := 0#32
  let v1645 : BitVec 1 := Scalar.cmpi .slt v1643 c0_i32_1323
  let c0_i32_1324 : BitVec 32 := 0#32
  let v1646 : BitVec 1 := Scalar.cmpi .slt v1642 c0_i32_1324
  let v1647 : BitVec 1 := Scalar.xori v1645 v1646
  let c0_i32_1322 : BitVec 32 := 0#32
  let v1644 : BitVec 1 := Scalar.cmpi .ne v1643 c0_i32_1322
  let v1648 : BitVec 1 := Scalar.andi v1647 v1644
  let v1649 : BitVec 32 := Scalar.addi v1643 v1642
  let v1650 : BitVec 32 := Scalar.select v1648 v1649 v1643
  let c1_i32_1329 : BitVec 32 := 1#32
  let v1653 : BitVec 32 := Scalar.muli v1650 c1_i32_1329
  let v1654 : BitVec 32 := Scalar.addi c0_i32_1330 v1653
  v1654.toNat
def k0_dev75 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1333 : BitVec 32 := 13#32
  let v1661 : BitVec 32 := Scalar.addi v2 c13_i32_1333
  let c32_i32_1334 : BitVec 32 := 32#32
  let c0_i32_1335 : BitVec 32 := 0#32
  let v1662 : BitVec 1 := Scalar.cmpi .eq c32_i32_1334 c0_i32_1335
  let c1_i32_1336 : BitVec 32 := 1#32
  let v1663 : BitVec 32 := Scalar.select v1662 c1_i32_1336 c32_i32_1334
  let v1664 : BitVec 32 := Scalar.remsi v1661 v1663
  let c0_i32_1338 : BitVec 32 := 0#32
  let v1666 : BitVec 1 := Scalar.cmpi .slt v1664 c0_i32_1338
  let c0_i32_1339 : BitVec 32 := 0#32
  let v1667 : BitVec 1 := Scalar.cmpi .slt v1663 c0_i32_1339
  let v1668 : BitVec 1 := Scalar.xori v1666 v1667
  let c0_i32_1337 : BitVec 32 := 0#32
  let v1665 : BitVec 1 := Scalar.cmpi .ne v1664 c0_i32_1337
  let v1669 : BitVec 1 := Scalar.andi v1668 v1665
  let v1670 : BitVec 32 := Scalar.addi v1664 v1663
  let v1671 : BitVec 32 := Scalar.select v1669 v1670 v1664
  let c1_i32_1344 : BitVec 32 := 1#32
  let v1674 : BitVec 32 := Scalar.muli v1671 c1_i32_1344
  let v1675 : BitVec 32 := Scalar.addi c0_i32_1345 v1674
  v1675.toNat
def k0_dev76 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1348 : BitVec 32 := 14#32
  let v1682 : BitVec 32 := Scalar.addi v2 c14_i32_1348
  let c32_i32_1349 : BitVec 32 := 32#32
  let c0_i32_1350 : BitVec 32 := 0#32
  let v1683 : BitVec 1 := Scalar.cmpi .eq c32_i32_1349 c0_i32_1350
  let c1_i32_1351 : BitVec 32 := 1#32
  let v1684 : BitVec 32 := Scalar.select v1683 c1_i32_1351 c32_i32_1349
  let v1685 : BitVec 32 := Scalar.remsi v1682 v1684
  let c0_i32_1353 : BitVec 32 := 0#32
  let v1687 : BitVec 1 := Scalar.cmpi .slt v1685 c0_i32_1353
  let c0_i32_1354 : BitVec 32 := 0#32
  let v1688 : BitVec 1 := Scalar.cmpi .slt v1684 c0_i32_1354
  let v1689 : BitVec 1 := Scalar.xori v1687 v1688
  let c0_i32_1352 : BitVec 32 := 0#32
  let v1686 : BitVec 1 := Scalar.cmpi .ne v1685 c0_i32_1352
  let v1690 : BitVec 1 := Scalar.andi v1689 v1686
  let v1691 : BitVec 32 := Scalar.addi v1685 v1684
  let v1692 : BitVec 32 := Scalar.select v1690 v1691 v1685
  let c1_i32_1359 : BitVec 32 := 1#32
  let v1695 : BitVec 32 := Scalar.muli v1692 c1_i32_1359
  let v1696 : BitVec 32 := Scalar.addi c0_i32_1360 v1695
  v1696.toNat
def k0_dev77 (d0 : Dev nD) : Nat :=
  let c0_i32_1375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1363 : BitVec 32 := 15#32
  let v1703 : BitVec 32 := Scalar.addi v2 c15_i32_1363
  let c32_i32_1364 : BitVec 32 := 32#32
  let c0_i32_1365 : BitVec 32 := 0#32
  let v1704 : BitVec 1 := Scalar.cmpi .eq c32_i32_1364 c0_i32_1365
  let c1_i32_1366 : BitVec 32 := 1#32
  let v1705 : BitVec 32 := Scalar.select v1704 c1_i32_1366 c32_i32_1364
  let v1706 : BitVec 32 := Scalar.remsi v1703 v1705
  let c0_i32_1368 : BitVec 32 := 0#32
  let v1708 : BitVec 1 := Scalar.cmpi .slt v1706 c0_i32_1368
  let c0_i32_1369 : BitVec 32 := 0#32
  let v1709 : BitVec 1 := Scalar.cmpi .slt v1705 c0_i32_1369
  let v1710 : BitVec 1 := Scalar.xori v1708 v1709
  let c0_i32_1367 : BitVec 32 := 0#32
  let v1707 : BitVec 1 := Scalar.cmpi .ne v1706 c0_i32_1367
  let v1711 : BitVec 1 := Scalar.andi v1710 v1707
  let v1712 : BitVec 32 := Scalar.addi v1706 v1705
  let v1713 : BitVec 32 := Scalar.select v1711 v1712 v1706
  let c1_i32_1374 : BitVec 32 := 1#32
  let v1716 : BitVec 32 := Scalar.muli v1713 c1_i32_1374
  let v1717 : BitVec 32 := Scalar.addi c0_i32_1375 v1716
  v1717.toNat
def k0_dev78 (d0 : Dev nD) : Nat :=
  let c0_i32_1390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1378 : BitVec 32 := 16#32
  let v1724 : BitVec 32 := Scalar.addi v2 c16_i32_1378
  let c32_i32_1379 : BitVec 32 := 32#32
  let c0_i32_1380 : BitVec 32 := 0#32
  let v1725 : BitVec 1 := Scalar.cmpi .eq c32_i32_1379 c0_i32_1380
  let c1_i32_1381 : BitVec 32 := 1#32
  let v1726 : BitVec 32 := Scalar.select v1725 c1_i32_1381 c32_i32_1379
  let v1727 : BitVec 32 := Scalar.remsi v1724 v1726
  let c0_i32_1383 : BitVec 32 := 0#32
  let v1729 : BitVec 1 := Scalar.cmpi .slt v1727 c0_i32_1383
  let c0_i32_1384 : BitVec 32 := 0#32
  let v1730 : BitVec 1 := Scalar.cmpi .slt v1726 c0_i32_1384
  let v1731 : BitVec 1 := Scalar.xori v1729 v1730
  let c0_i32_1382 : BitVec 32 := 0#32
  let v1728 : BitVec 1 := Scalar.cmpi .ne v1727 c0_i32_1382
  let v1732 : BitVec 1 := Scalar.andi v1731 v1728
  let v1733 : BitVec 32 := Scalar.addi v1727 v1726
  let v1734 : BitVec 32 := Scalar.select v1732 v1733 v1727
  let c1_i32_1389 : BitVec 32 := 1#32
  let v1737 : BitVec 32 := Scalar.muli v1734 c1_i32_1389
  let v1738 : BitVec 32 := Scalar.addi c0_i32_1390 v1737
  v1738.toNat
def k0_dev79 (d0 : Dev nD) : Nat :=
  let c0_i32_1405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1393 : BitVec 32 := 17#32
  let v1745 : BitVec 32 := Scalar.addi v2 c17_i32_1393
  let c32_i32_1394 : BitVec 32 := 32#32
  let c0_i32_1395 : BitVec 32 := 0#32
  let v1746 : BitVec 1 := Scalar.cmpi .eq c32_i32_1394 c0_i32_1395
  let c1_i32_1396 : BitVec 32 := 1#32
  let v1747 : BitVec 32 := Scalar.select v1746 c1_i32_1396 c32_i32_1394
  let v1748 : BitVec 32 := Scalar.remsi v1745 v1747
  let c0_i32_1398 : BitVec 32 := 0#32
  let v1750 : BitVec 1 := Scalar.cmpi .slt v1748 c0_i32_1398
  let c0_i32_1399 : BitVec 32 := 0#32
  let v1751 : BitVec 1 := Scalar.cmpi .slt v1747 c0_i32_1399
  let v1752 : BitVec 1 := Scalar.xori v1750 v1751
  let c0_i32_1397 : BitVec 32 := 0#32
  let v1749 : BitVec 1 := Scalar.cmpi .ne v1748 c0_i32_1397
  let v1753 : BitVec 1 := Scalar.andi v1752 v1749
  let v1754 : BitVec 32 := Scalar.addi v1748 v1747
  let v1755 : BitVec 32 := Scalar.select v1753 v1754 v1748
  let c1_i32_1404 : BitVec 32 := 1#32
  let v1758 : BitVec 32 := Scalar.muli v1755 c1_i32_1404
  let v1759 : BitVec 32 := Scalar.addi c0_i32_1405 v1758
  v1759.toNat
def k0_dev80 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1408 : BitVec 32 := 18#32
  let v1766 : BitVec 32 := Scalar.addi v2 c18_i32_1408
  let c32_i32_1409 : BitVec 32 := 32#32
  let c0_i32_1410 : BitVec 32 := 0#32
  let v1767 : BitVec 1 := Scalar.cmpi .eq c32_i32_1409 c0_i32_1410
  let c1_i32_1411 : BitVec 32 := 1#32
  let v1768 : BitVec 32 := Scalar.select v1767 c1_i32_1411 c32_i32_1409
  let v1769 : BitVec 32 := Scalar.remsi v1766 v1768
  let c0_i32_1413 : BitVec 32 := 0#32
  let v1771 : BitVec 1 := Scalar.cmpi .slt v1769 c0_i32_1413
  let c0_i32_1414 : BitVec 32 := 0#32
  let v1772 : BitVec 1 := Scalar.cmpi .slt v1768 c0_i32_1414
  let v1773 : BitVec 1 := Scalar.xori v1771 v1772
  let c0_i32_1412 : BitVec 32 := 0#32
  let v1770 : BitVec 1 := Scalar.cmpi .ne v1769 c0_i32_1412
  let v1774 : BitVec 1 := Scalar.andi v1773 v1770
  let v1775 : BitVec 32 := Scalar.addi v1769 v1768
  let v1776 : BitVec 32 := Scalar.select v1774 v1775 v1769
  let c1_i32_1419 : BitVec 32 := 1#32
  let v1779 : BitVec 32 := Scalar.muli v1776 c1_i32_1419
  let v1780 : BitVec 32 := Scalar.addi c0_i32_1420 v1779
  v1780.toNat
def k0_dev81 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1423 : BitVec 32 := 19#32
  let v1787 : BitVec 32 := Scalar.addi v2 c19_i32_1423
  let c32_i32_1424 : BitVec 32 := 32#32
  let c0_i32_1425 : BitVec 32 := 0#32
  let v1788 : BitVec 1 := Scalar.cmpi .eq c32_i32_1424 c0_i32_1425
  let c1_i32_1426 : BitVec 32 := 1#32
  let v1789 : BitVec 32 := Scalar.select v1788 c1_i32_1426 c32_i32_1424
  let v1790 : BitVec 32 := Scalar.remsi v1787 v1789
  let c0_i32_1428 : BitVec 32 := 0#32
  let v1792 : BitVec 1 := Scalar.cmpi .slt v1790 c0_i32_1428
  let c0_i32_1429 : BitVec 32 := 0#32
  let v1793 : BitVec 1 := Scalar.cmpi .slt v1789 c0_i32_1429
  let v1794 : BitVec 1 := Scalar.xori v1792 v1793
  let c0_i32_1427 : BitVec 32 := 0#32
  let v1791 : BitVec 1 := Scalar.cmpi .ne v1790 c0_i32_1427
  let v1795 : BitVec 1 := Scalar.andi v1794 v1791
  let v1796 : BitVec 32 := Scalar.addi v1790 v1789
  let v1797 : BitVec 32 := Scalar.select v1795 v1796 v1790
  let c1_i32_1434 : BitVec 32 := 1#32
  let v1800 : BitVec 32 := Scalar.muli v1797 c1_i32_1434
  let v1801 : BitVec 32 := Scalar.addi c0_i32_1435 v1800
  v1801.toNat
def k0_dev82 (d0 : Dev nD) : Nat :=
  let c0_i32_1450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1438 : BitVec 32 := 20#32
  let v1808 : BitVec 32 := Scalar.addi v2 c20_i32_1438
  let c32_i32_1439 : BitVec 32 := 32#32
  let c0_i32_1440 : BitVec 32 := 0#32
  let v1809 : BitVec 1 := Scalar.cmpi .eq c32_i32_1439 c0_i32_1440
  let c1_i32_1441 : BitVec 32 := 1#32
  let v1810 : BitVec 32 := Scalar.select v1809 c1_i32_1441 c32_i32_1439
  let v1811 : BitVec 32 := Scalar.remsi v1808 v1810
  let c0_i32_1443 : BitVec 32 := 0#32
  let v1813 : BitVec 1 := Scalar.cmpi .slt v1811 c0_i32_1443
  let c0_i32_1444 : BitVec 32 := 0#32
  let v1814 : BitVec 1 := Scalar.cmpi .slt v1810 c0_i32_1444
  let v1815 : BitVec 1 := Scalar.xori v1813 v1814
  let c0_i32_1442 : BitVec 32 := 0#32
  let v1812 : BitVec 1 := Scalar.cmpi .ne v1811 c0_i32_1442
  let v1816 : BitVec 1 := Scalar.andi v1815 v1812
  let v1817 : BitVec 32 := Scalar.addi v1811 v1810
  let v1818 : BitVec 32 := Scalar.select v1816 v1817 v1811
  let c1_i32_1449 : BitVec 32 := 1#32
  let v1821 : BitVec 32 := Scalar.muli v1818 c1_i32_1449
  let v1822 : BitVec 32 := Scalar.addi c0_i32_1450 v1821
  v1822.toNat
def k0_dev83 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1453 : BitVec 32 := 21#32
  let v1829 : BitVec 32 := Scalar.addi v2 c21_i32_1453
  let c32_i32_1454 : BitVec 32 := 32#32
  let c0_i32_1455 : BitVec 32 := 0#32
  let v1830 : BitVec 1 := Scalar.cmpi .eq c32_i32_1454 c0_i32_1455
  let c1_i32_1456 : BitVec 32 := 1#32
  let v1831 : BitVec 32 := Scalar.select v1830 c1_i32_1456 c32_i32_1454
  let v1832 : BitVec 32 := Scalar.remsi v1829 v1831
  let c0_i32_1458 : BitVec 32 := 0#32
  let v1834 : BitVec 1 := Scalar.cmpi .slt v1832 c0_i32_1458
  let c0_i32_1459 : BitVec 32 := 0#32
  let v1835 : BitVec 1 := Scalar.cmpi .slt v1831 c0_i32_1459
  let v1836 : BitVec 1 := Scalar.xori v1834 v1835
  let c0_i32_1457 : BitVec 32 := 0#32
  let v1833 : BitVec 1 := Scalar.cmpi .ne v1832 c0_i32_1457
  let v1837 : BitVec 1 := Scalar.andi v1836 v1833
  let v1838 : BitVec 32 := Scalar.addi v1832 v1831
  let v1839 : BitVec 32 := Scalar.select v1837 v1838 v1832
  let c1_i32_1464 : BitVec 32 := 1#32
  let v1842 : BitVec 32 := Scalar.muli v1839 c1_i32_1464
  let v1843 : BitVec 32 := Scalar.addi c0_i32_1465 v1842
  v1843.toNat
def k0_dev84 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1468 : BitVec 32 := 22#32
  let v1850 : BitVec 32 := Scalar.addi v2 c22_i32_1468
  let c32_i32_1469 : BitVec 32 := 32#32
  let c0_i32_1470 : BitVec 32 := 0#32
  let v1851 : BitVec 1 := Scalar.cmpi .eq c32_i32_1469 c0_i32_1470
  let c1_i32_1471 : BitVec 32 := 1#32
  let v1852 : BitVec 32 := Scalar.select v1851 c1_i32_1471 c32_i32_1469
  let v1853 : BitVec 32 := Scalar.remsi v1850 v1852
  let c0_i32_1473 : BitVec 32 := 0#32
  let v1855 : BitVec 1 := Scalar.cmpi .slt v1853 c0_i32_1473
  let c0_i32_1474 : BitVec 32 := 0#32
  let v1856 : BitVec 1 := Scalar.cmpi .slt v1852 c0_i32_1474
  let v1857 : BitVec 1 := Scalar.xori v1855 v1856
  let c0_i32_1472 : BitVec 32 := 0#32
  let v1854 : BitVec 1 := Scalar.cmpi .ne v1853 c0_i32_1472
  let v1858 : BitVec 1 := Scalar.andi v1857 v1854
  let v1859 : BitVec 32 := Scalar.addi v1853 v1852
  let v1860 : BitVec 32 := Scalar.select v1858 v1859 v1853
  let c1_i32_1479 : BitVec 32 := 1#32
  let v1863 : BitVec 32 := Scalar.muli v1860 c1_i32_1479
  let v1864 : BitVec 32 := Scalar.addi c0_i32_1480 v1863
  v1864.toNat
def k0_dev85 (d0 : Dev nD) : Nat :=
  let c0_i32_1495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1483 : BitVec 32 := 23#32
  let v1871 : BitVec 32 := Scalar.addi v2 c23_i32_1483
  let c32_i32_1484 : BitVec 32 := 32#32
  let c0_i32_1485 : BitVec 32 := 0#32
  let v1872 : BitVec 1 := Scalar.cmpi .eq c32_i32_1484 c0_i32_1485
  let c1_i32_1486 : BitVec 32 := 1#32
  let v1873 : BitVec 32 := Scalar.select v1872 c1_i32_1486 c32_i32_1484
  let v1874 : BitVec 32 := Scalar.remsi v1871 v1873
  let c0_i32_1488 : BitVec 32 := 0#32
  let v1876 : BitVec 1 := Scalar.cmpi .slt v1874 c0_i32_1488
  let c0_i32_1489 : BitVec 32 := 0#32
  let v1877 : BitVec 1 := Scalar.cmpi .slt v1873 c0_i32_1489
  let v1878 : BitVec 1 := Scalar.xori v1876 v1877
  let c0_i32_1487 : BitVec 32 := 0#32
  let v1875 : BitVec 1 := Scalar.cmpi .ne v1874 c0_i32_1487
  let v1879 : BitVec 1 := Scalar.andi v1878 v1875
  let v1880 : BitVec 32 := Scalar.addi v1874 v1873
  let v1881 : BitVec 32 := Scalar.select v1879 v1880 v1874
  let c1_i32_1494 : BitVec 32 := 1#32
  let v1884 : BitVec 32 := Scalar.muli v1881 c1_i32_1494
  let v1885 : BitVec 32 := Scalar.addi c0_i32_1495 v1884
  v1885.toNat
def k0_dev86 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1498 : BitVec 32 := 24#32
  let v1892 : BitVec 32 := Scalar.addi v2 c24_i32_1498
  let c32_i32_1499 : BitVec 32 := 32#32
  let c0_i32_1500 : BitVec 32 := 0#32
  let v1893 : BitVec 1 := Scalar.cmpi .eq c32_i32_1499 c0_i32_1500
  let c1_i32_1501 : BitVec 32 := 1#32
  let v1894 : BitVec 32 := Scalar.select v1893 c1_i32_1501 c32_i32_1499
  let v1895 : BitVec 32 := Scalar.remsi v1892 v1894
  let c0_i32_1503 : BitVec 32 := 0#32
  let v1897 : BitVec 1 := Scalar.cmpi .slt v1895 c0_i32_1503
  let c0_i32_1504 : BitVec 32 := 0#32
  let v1898 : BitVec 1 := Scalar.cmpi .slt v1894 c0_i32_1504
  let v1899 : BitVec 1 := Scalar.xori v1897 v1898
  let c0_i32_1502 : BitVec 32 := 0#32
  let v1896 : BitVec 1 := Scalar.cmpi .ne v1895 c0_i32_1502
  let v1900 : BitVec 1 := Scalar.andi v1899 v1896
  let v1901 : BitVec 32 := Scalar.addi v1895 v1894
  let v1902 : BitVec 32 := Scalar.select v1900 v1901 v1895
  let c1_i32_1509 : BitVec 32 := 1#32
  let v1905 : BitVec 32 := Scalar.muli v1902 c1_i32_1509
  let v1906 : BitVec 32 := Scalar.addi c0_i32_1510 v1905
  v1906.toNat
def k0_dev87 (d0 : Dev nD) : Nat :=
  let c0_i32_1525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1513 : BitVec 32 := 25#32
  let v1913 : BitVec 32 := Scalar.addi v2 c25_i32_1513
  let c32_i32_1514 : BitVec 32 := 32#32
  let c0_i32_1515 : BitVec 32 := 0#32
  let v1914 : BitVec 1 := Scalar.cmpi .eq c32_i32_1514 c0_i32_1515
  let c1_i32_1516 : BitVec 32 := 1#32
  let v1915 : BitVec 32 := Scalar.select v1914 c1_i32_1516 c32_i32_1514
  let v1916 : BitVec 32 := Scalar.remsi v1913 v1915
  let c0_i32_1518 : BitVec 32 := 0#32
  let v1918 : BitVec 1 := Scalar.cmpi .slt v1916 c0_i32_1518
  let c0_i32_1519 : BitVec 32 := 0#32
  let v1919 : BitVec 1 := Scalar.cmpi .slt v1915 c0_i32_1519
  let v1920 : BitVec 1 := Scalar.xori v1918 v1919
  let c0_i32_1517 : BitVec 32 := 0#32
  let v1917 : BitVec 1 := Scalar.cmpi .ne v1916 c0_i32_1517
  let v1921 : BitVec 1 := Scalar.andi v1920 v1917
  let v1922 : BitVec 32 := Scalar.addi v1916 v1915
  let v1923 : BitVec 32 := Scalar.select v1921 v1922 v1916
  let c1_i32_1524 : BitVec 32 := 1#32
  let v1926 : BitVec 32 := Scalar.muli v1923 c1_i32_1524
  let v1927 : BitVec 32 := Scalar.addi c0_i32_1525 v1926
  v1927.toNat
def k0_dev88 (d0 : Dev nD) : Nat :=
  let c0_i32_1540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1528 : BitVec 32 := 26#32
  let v1934 : BitVec 32 := Scalar.addi v2 c26_i32_1528
  let c32_i32_1529 : BitVec 32 := 32#32
  let c0_i32_1530 : BitVec 32 := 0#32
  let v1935 : BitVec 1 := Scalar.cmpi .eq c32_i32_1529 c0_i32_1530
  let c1_i32_1531 : BitVec 32 := 1#32
  let v1936 : BitVec 32 := Scalar.select v1935 c1_i32_1531 c32_i32_1529
  let v1937 : BitVec 32 := Scalar.remsi v1934 v1936
  let c0_i32_1533 : BitVec 32 := 0#32
  let v1939 : BitVec 1 := Scalar.cmpi .slt v1937 c0_i32_1533
  let c0_i32_1534 : BitVec 32 := 0#32
  let v1940 : BitVec 1 := Scalar.cmpi .slt v1936 c0_i32_1534
  let v1941 : BitVec 1 := Scalar.xori v1939 v1940
  let c0_i32_1532 : BitVec 32 := 0#32
  let v1938 : BitVec 1 := Scalar.cmpi .ne v1937 c0_i32_1532
  let v1942 : BitVec 1 := Scalar.andi v1941 v1938
  let v1943 : BitVec 32 := Scalar.addi v1937 v1936
  let v1944 : BitVec 32 := Scalar.select v1942 v1943 v1937
  let c1_i32_1539 : BitVec 32 := 1#32
  let v1947 : BitVec 32 := Scalar.muli v1944 c1_i32_1539
  let v1948 : BitVec 32 := Scalar.addi c0_i32_1540 v1947
  v1948.toNat
def k0_dev89 (d0 : Dev nD) : Nat :=
  let c0_i32_1555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1543 : BitVec 32 := 27#32
  let v1955 : BitVec 32 := Scalar.addi v2 c27_i32_1543
  let c32_i32_1544 : BitVec 32 := 32#32
  let c0_i32_1545 : BitVec 32 := 0#32
  let v1956 : BitVec 1 := Scalar.cmpi .eq c32_i32_1544 c0_i32_1545
  let c1_i32_1546 : BitVec 32 := 1#32
  let v1957 : BitVec 32 := Scalar.select v1956 c1_i32_1546 c32_i32_1544
  let v1958 : BitVec 32 := Scalar.remsi v1955 v1957
  let c0_i32_1548 : BitVec 32 := 0#32
  let v1960 : BitVec 1 := Scalar.cmpi .slt v1958 c0_i32_1548
  let c0_i32_1549 : BitVec 32 := 0#32
  let v1961 : BitVec 1 := Scalar.cmpi .slt v1957 c0_i32_1549
  let v1962 : BitVec 1 := Scalar.xori v1960 v1961
  let c0_i32_1547 : BitVec 32 := 0#32
  let v1959 : BitVec 1 := Scalar.cmpi .ne v1958 c0_i32_1547
  let v1963 : BitVec 1 := Scalar.andi v1962 v1959
  let v1964 : BitVec 32 := Scalar.addi v1958 v1957
  let v1965 : BitVec 32 := Scalar.select v1963 v1964 v1958
  let c1_i32_1554 : BitVec 32 := 1#32
  let v1968 : BitVec 32 := Scalar.muli v1965 c1_i32_1554
  let v1969 : BitVec 32 := Scalar.addi c0_i32_1555 v1968
  v1969.toNat
def k0_dev90 (d0 : Dev nD) : Nat :=
  let c0_i32_1570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1558 : BitVec 32 := 28#32
  let v1976 : BitVec 32 := Scalar.addi v2 c28_i32_1558
  let c32_i32_1559 : BitVec 32 := 32#32
  let c0_i32_1560 : BitVec 32 := 0#32
  let v1977 : BitVec 1 := Scalar.cmpi .eq c32_i32_1559 c0_i32_1560
  let c1_i32_1561 : BitVec 32 := 1#32
  let v1978 : BitVec 32 := Scalar.select v1977 c1_i32_1561 c32_i32_1559
  let v1979 : BitVec 32 := Scalar.remsi v1976 v1978
  let c0_i32_1563 : BitVec 32 := 0#32
  let v1981 : BitVec 1 := Scalar.cmpi .slt v1979 c0_i32_1563
  let c0_i32_1564 : BitVec 32 := 0#32
  let v1982 : BitVec 1 := Scalar.cmpi .slt v1978 c0_i32_1564
  let v1983 : BitVec 1 := Scalar.xori v1981 v1982
  let c0_i32_1562 : BitVec 32 := 0#32
  let v1980 : BitVec 1 := Scalar.cmpi .ne v1979 c0_i32_1562
  let v1984 : BitVec 1 := Scalar.andi v1983 v1980
  let v1985 : BitVec 32 := Scalar.addi v1979 v1978
  let v1986 : BitVec 32 := Scalar.select v1984 v1985 v1979
  let c1_i32_1569 : BitVec 32 := 1#32
  let v1989 : BitVec 32 := Scalar.muli v1986 c1_i32_1569
  let v1990 : BitVec 32 := Scalar.addi c0_i32_1570 v1989
  v1990.toNat
def k0_dev91 (d0 : Dev nD) : Nat :=
  let c0_i32_1585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1573 : BitVec 32 := 29#32
  let v1997 : BitVec 32 := Scalar.addi v2 c29_i32_1573
  let c32_i32_1574 : BitVec 32 := 32#32
  let c0_i32_1575 : BitVec 32 := 0#32
  let v1998 : BitVec 1 := Scalar.cmpi .eq c32_i32_1574 c0_i32_1575
  let c1_i32_1576 : BitVec 32 := 1#32
  let v1999 : BitVec 32 := Scalar.select v1998 c1_i32_1576 c32_i32_1574
  let v2000 : BitVec 32 := Scalar.remsi v1997 v1999
  let c0_i32_1578 : BitVec 32 := 0#32
  let v2002 : BitVec 1 := Scalar.cmpi .slt v2000 c0_i32_1578
  let c0_i32_1579 : BitVec 32 := 0#32
  let v2003 : BitVec 1 := Scalar.cmpi .slt v1999 c0_i32_1579
  let v2004 : BitVec 1 := Scalar.xori v2002 v2003
  let c0_i32_1577 : BitVec 32 := 0#32
  let v2001 : BitVec 1 := Scalar.cmpi .ne v2000 c0_i32_1577
  let v2005 : BitVec 1 := Scalar.andi v2004 v2001
  let v2006 : BitVec 32 := Scalar.addi v2000 v1999
  let v2007 : BitVec 32 := Scalar.select v2005 v2006 v2000
  let c1_i32_1584 : BitVec 32 := 1#32
  let v2010 : BitVec 32 := Scalar.muli v2007 c1_i32_1584
  let v2011 : BitVec 32 := Scalar.addi c0_i32_1585 v2010
  v2011.toNat
def k0_dev92 (d0 : Dev nD) : Nat :=
  let c0_i32_1600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1588 : BitVec 32 := 30#32
  let v2018 : BitVec 32 := Scalar.addi v2 c30_i32_1588
  let c32_i32_1589 : BitVec 32 := 32#32
  let c0_i32_1590 : BitVec 32 := 0#32
  let v2019 : BitVec 1 := Scalar.cmpi .eq c32_i32_1589 c0_i32_1590
  let c1_i32_1591 : BitVec 32 := 1#32
  let v2020 : BitVec 32 := Scalar.select v2019 c1_i32_1591 c32_i32_1589
  let v2021 : BitVec 32 := Scalar.remsi v2018 v2020
  let c0_i32_1593 : BitVec 32 := 0#32
  let v2023 : BitVec 1 := Scalar.cmpi .slt v2021 c0_i32_1593
  let c0_i32_1594 : BitVec 32 := 0#32
  let v2024 : BitVec 1 := Scalar.cmpi .slt v2020 c0_i32_1594
  let v2025 : BitVec 1 := Scalar.xori v2023 v2024
  let c0_i32_1592 : BitVec 32 := 0#32
  let v2022 : BitVec 1 := Scalar.cmpi .ne v2021 c0_i32_1592
  let v2026 : BitVec 1 := Scalar.andi v2025 v2022
  let v2027 : BitVec 32 := Scalar.addi v2021 v2020
  let v2028 : BitVec 32 := Scalar.select v2026 v2027 v2021
  let c1_i32_1599 : BitVec 32 := 1#32
  let v2031 : BitVec 32 := Scalar.muli v2028 c1_i32_1599
  let v2032 : BitVec 32 := Scalar.addi c0_i32_1600 v2031
  v2032.toNat
def k0_dev93 (d0 : Dev nD) : Nat :=
  let c0_i32_1615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1603 : BitVec 32 := 31#32
  let v2039 : BitVec 32 := Scalar.addi v2 c31_i32_1603
  let c32_i32_1604 : BitVec 32 := 32#32
  let c0_i32_1605 : BitVec 32 := 0#32
  let v2040 : BitVec 1 := Scalar.cmpi .eq c32_i32_1604 c0_i32_1605
  let c1_i32_1606 : BitVec 32 := 1#32
  let v2041 : BitVec 32 := Scalar.select v2040 c1_i32_1606 c32_i32_1604
  let v2042 : BitVec 32 := Scalar.remsi v2039 v2041
  let c0_i32_1608 : BitVec 32 := 0#32
  let v2044 : BitVec 1 := Scalar.cmpi .slt v2042 c0_i32_1608
  let c0_i32_1609 : BitVec 32 := 0#32
  let v2045 : BitVec 1 := Scalar.cmpi .slt v2041 c0_i32_1609
  let v2046 : BitVec 1 := Scalar.xori v2044 v2045
  let c0_i32_1607 : BitVec 32 := 0#32
  let v2043 : BitVec 1 := Scalar.cmpi .ne v2042 c0_i32_1607
  let v2047 : BitVec 1 := Scalar.andi v2046 v2043
  let v2048 : BitVec 32 := Scalar.addi v2042 v2041
  let v2049 : BitVec 32 := Scalar.select v2047 v2048 v2042
  let c1_i32_1614 : BitVec 32 := 1#32
  let v2052 : BitVec 32 := Scalar.muli v2049 c1_i32_1614
  let v2053 : BitVec 32 := Scalar.addi c0_i32_1615 v2052
  v2053.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x256 : Shape := ⟨2, ![16384, 256]⟩
abbrev S256x256 : Shape := ⟨2, ![256, 256]⟩
abbrev S32x512x256 : Shape := ⟨3, ![32, 512, 256]⟩
abbrev S_ : Shape := ⟨0, ![]⟩
abbrev S512x256 : Shape := ⟨2, ![512, 256]⟩

abbrev nBuf : Space → Nat
  | .hbm => 6
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x256, .f32⟩
  | .hbm, ⟨2, _⟩ => ⟨S32x512x256, .f32⟩
  | .hbm, ⟨3, _⟩ => ⟨S_, .f32⟩
  | .hbm, ⟨4, _⟩ => ⟨S512x256, .f32⟩
  | .hbm, ⟨5, _⟩ => ⟨S512x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdeal.Flat.lean ====
module

public import proofs.«01_k».proof.Proof.Gen.KernelIdeal.Skeleton
public import Idealize.ShloMosaic.Lib.Pipeline.Regions

/-! # The kernel body as loops

The body names each of its 31 peers once per phase, one operation after another. Here it is written as seven loops over
the peer index `k : Fin 31` (peer `k` of device `d` is the device `d + k + 1`, around the ring of 32), and the printed
body is shown to be those loops. -/

@[expose] public section

set_option synthInstance.maxSize 4096

noncomputable section

namespace Cert.KernelIdealProof

open Cert.KernelIdeal Cert.KernelIdeal.Gen
open Idealize.ShloMosaic Idealize.SL.Sem

variable {F : FTy → Type} [FloatOps F]

/-- The peer indices in the order the body visits them. -/
def ks : List (Fin 31) := [0, 1, 2, 3, 4, 5, 6, 7, 8, 9, 10, 11, 12, 13, 14, 15, 16, 17, 18, 19, 20, 21, 22, 23, 24, 25, 26, 27, 28, 29, 30]

theorem ks_eq : ks = List.finRange 31 := by decide

/-- The slot index `k + 1` that peer `k` has at the sender. -/
def up (k : Fin 31) : Fin 32 := ⟨k.val + 1, by omega⟩
/-- The slot index `31 - k` that the sender has at its peer `k`. -/
def dn (k : Fin 31) : Fin 32 := ⟨31 - k.val, by omega⟩

/-- The device signalled as peer `k`. -/
def devA : Fin 31 → Dev nD → Dev nD :=
  ![fun d => ⟨k0_dev1 d, k0_dev1_lt d⟩, fun d => ⟨k0_dev2 d, k0_dev2_lt d⟩,
    fun d => ⟨k0_dev3 d, k0_dev3_lt d⟩, fun d => ⟨k0_dev4 d, k0_dev4_lt d⟩,
    fun d => ⟨k0_dev5 d, k0_dev5_lt d⟩, fun d => ⟨k0_dev6 d, k0_dev6_lt d⟩,
    fun d => ⟨k0_dev7 d, k0_dev7_lt d⟩, fun d => ⟨k0_dev8 d, k0_dev8_lt d⟩,
    fun d => ⟨k0_dev9 d, k0_dev9_lt d⟩, fun d => ⟨k0_dev10 d, k0_dev10_lt d⟩,
    fun d => ⟨k0_dev11 d, k0_dev11_lt d⟩, fun d => ⟨k0_dev12 d, k0_dev12_lt d⟩,
    fun d => ⟨k0_dev13 d, k0_dev13_lt d⟩, fun d => ⟨k0_dev14 d, k0_dev14_lt d⟩,
    fun d => ⟨k0_dev15 d, k0_dev15_lt d⟩, fun d => ⟨k0_dev16 d, k0_dev16_lt d⟩,
    fun d => ⟨k0_dev17 d, k0_dev17_lt d⟩, fun d => ⟨k0_dev18 d, k0_dev18_lt d⟩,
    fun d => ⟨k0_dev19 d, k0_dev19_lt d⟩, fun d => ⟨k0_dev20 d, k0_dev20_lt d⟩,
    fun d => ⟨k0_dev21 d, k0_dev21_lt d⟩, fun d => ⟨k0_dev22 d, k0_dev22_lt d⟩,
    fun d => ⟨k0_dev23 d, k0_dev23_lt d⟩, fun d => ⟨k0_dev24 d, k0_dev24_lt d⟩,
    fun d => ⟨k0_dev25 d, k0_dev25_lt d⟩, fun d => ⟨k0_dev26 d, k0_dev26_lt d⟩,
    fun d => ⟨k0_dev27 d, k0_dev27_lt d⟩, fun d => ⟨k0_dev28 d, k0_dev28_lt d⟩,
    fun d => ⟨k0_dev29 d, k0_dev29_lt d⟩, fun d => ⟨k0_dev30 d, k0_dev30_lt d⟩,
    fun d => ⟨k0_dev31 d, k0_dev31_lt d⟩]

/-- The device the block of `t` is sent to as peer `k`. -/
def devB : Fin 31 → Dev nD → Dev nD :=
  ![fun d => ⟨k0_dev32 d, k0_dev32_lt d⟩, fun d => ⟨k0_dev33 d, k0_dev33_lt d⟩,
    fun d => ⟨k0_dev34 d, k0_dev34_lt d⟩, fun d => ⟨k0_dev35 d, k0_dev35_lt d⟩,
    fun d => ⟨k0_dev36 d, k0_dev36_lt d⟩, fun d => ⟨k0_dev37 d, k0_dev37_lt d⟩,
    fun d => ⟨k0_dev38 d, k0_dev38_lt d⟩, fun d => ⟨k0_dev39 d, k0_dev39_lt d⟩,
    fun d => ⟨k0_dev40 d, k0_dev40_lt d⟩, fun d => ⟨k0_dev41 d, k0_dev41_lt d⟩,
    fun d => ⟨k0_dev42 d, k0_dev42_lt d⟩, fun d => ⟨k0_dev43 d, k0_dev43_lt d⟩,
    fun d => ⟨k0_dev44 d, k0_dev44_lt d⟩, fun d => ⟨k0_dev45 d, k0_dev45_lt d⟩,
    fun d => ⟨k0_dev46 d, k0_dev46_lt d⟩, fun d => ⟨k0_dev47 d, k0_dev47_lt d⟩,
    fun d => ⟨k0_dev48 d, k0_dev48_lt d⟩, fun d => ⟨k0_dev49 d, k0_dev49_lt d⟩,
    fun d => ⟨k0_dev50 d, k0_dev50_lt d⟩, fun d => ⟨k0_dev51 d, k0_dev51_lt d⟩,
    fun d => ⟨k0_dev52 d, k0_dev52_lt d⟩, fun d => ⟨k0_dev53 d, k0_dev53_lt d⟩,
    fun d => ⟨k0_dev54 d, k0_dev54_lt d⟩, fun d => ⟨k0_dev55 d, k0_dev55_lt d⟩,
    fun d => ⟨k0_dev56 d, k0_dev56_lt d⟩, fun d => ⟨k0_dev57 d, k0_dev57_lt d⟩,
    fun d => ⟨k0_dev58 d, k0_dev58_lt d⟩, fun d => ⟨k0_dev59 d, k0_dev59_lt d⟩,
    fun d => ⟨k0_dev60 d, k0_dev60_lt d⟩, fun d => ⟨k0_dev61 d, k0_dev61_lt d⟩,
    fun d => ⟨k0_dev62 d, k0_dev62_lt d⟩]

/-- The device the block of the result is sent to as peer `k`. -/
def devC : Fin 31 → Dev nD → Dev nD :=
  ![fun d => ⟨k0_dev63 d, k0_dev63_lt d⟩, fun d => ⟨k0_dev64 d, k0_dev64_lt d⟩,
    fun d => ⟨k0_dev65 d, k0_dev65_lt d⟩, fun d => ⟨k0_dev66 d, k0_dev66_lt d⟩,
    fun d => ⟨k0_dev67 d, k0_dev67_lt d⟩, fun d => ⟨k0_dev68 d, k0_dev68_lt d⟩,
    fun d => ⟨k0_dev69 d, k0_dev69_lt d⟩, fun d => ⟨k0_dev70 d, k0_dev70_lt d⟩,
    fun d => ⟨k0_dev71 d, k0_dev71_lt d⟩, fun d => ⟨k0_dev72 d, k0_dev72_lt d⟩,
    fun d => ⟨k0_dev73 d, k0_dev73_lt d⟩, fun d => ⟨k0_dev74 d, k0_dev74_lt d⟩,
    fun d => ⟨k0_dev75 d, k0_dev75_lt d⟩, fun d => ⟨k0_dev76 d, k0_dev76_lt d⟩,
    fun d => ⟨k0_dev77 d, k0_dev77_lt d⟩, fun d => ⟨k0_dev78 d, k0_dev78_lt d⟩,
    fun d => ⟨k0_dev79 d, k0_dev79_lt d⟩, fun d => ⟨k0_dev80 d, k0_dev80_lt d⟩,
    fun d => ⟨k0_dev81 d, k0_dev81_lt d⟩, fun d => ⟨k0_dev82 d, k0_dev82_lt d⟩,
    fun d => ⟨k0_dev83 d, k0_dev83_lt d⟩, fun d => ⟨k0_dev84 d, k0_dev84_lt d⟩,
    fun d => ⟨k0_dev85 d, k0_dev85_lt d⟩, fun d => ⟨k0_dev86 d, k0_dev86_lt d⟩,
    fun d => ⟨k0_dev87 d, k0_dev87_lt d⟩, fun d => ⟨k0_dev88 d, k0_dev88_lt d⟩,
    fun d => ⟨k0_dev89 d, k0_dev89_lt d⟩, fun d => ⟨k0_dev90 d, k0_dev90_lt d⟩,
    fun d => ⟨k0_dev91 d, k0_dev91_lt d⟩, fun d => ⟨k0_dev92 d, k0_dev92_lt d⟩,
    fun d => ⟨k0_dev93 d, k0_dev93_lt d⟩]

/-- Peer `k` of device `d`: the device `k + 1` further around the ring. -/
def peer (d : Dev nD) (k : Fin 31) : Dev nD := ⟨(d.val + (k.val + 1)) % 32, Nat.mod_lt _ (by decide)⟩

theorem devA_eq : ∀ (k : Fin 31) (d : Dev nD), devA k d = peer d k := by decide +kernel
theorem devB_eq : ∀ (k : Fin 31) (d : Dev nD), devB k d = peer d k := by decide +kernel
theorem devC_eq : ∀ (k : Fin 31) (d : Dev nD), devC k d = peer d k := by decide +kernel

/-- Semaphore `j` of an array of 32. -/
abbrev semAt (a : DmaSems sig S32) (j : Fin 32) : DmaSems sig S_ :=
  (a.slice (Rect.unit (s := S32) ![j.val] S1.size (by revert j; decide))).squeeze S_ squeezes_S1_S_

theorem slot_inb (j : Fin 32) : ∀ a, ![j.val, 0, 0] a + S1x16x256.size a ≤ S32x16x256.size a := by revert j; decide

/-- The rectangle of slot `j` of the landing buffer. -/
abbrev slotR (j : Fin 32) : Rect S32x16x256 := Rect.unit (s := S32x16x256) ![j.val, 0, 0] S1x16x256.size (slot_inb j)

/-- Slot `j` of the landing buffer, as a 16 × 256 block. -/
abbrev slotM (a : Memref sig .tc .vmem S32x16x256 .f32) (j : Fin 32) : Memref sig .tc .vmem S16x256 .f32 :=
  (a.slice (slotR j) (fun _ => rfl)).squeeze S16x256 squeezes_S1x16x256_S16x256

/-- The rows of device `d`'s peer `k` in a 512 × 256 buffer. -/
abbrev peerM (a : Memref sig .tc .vmem S512x256 .f32) (d : Dev nD) (k : Fin 31) : Memref sig .tc .vmem S16x256 .f32 :=
  a.slice (Rect.unit (s := S512x256) (k0_off1 d (BitVec.ofNat 32 (1 + k.val))) S16x256.size (k0_off1_inb d k)) (fun _ => rfl)

/-- The rows of device `d` itself in a 512 × 256 buffer, as a rectangle. -/
abbrev ownR (d : Dev nD) : Rect S512x256 := Rect.unit (s := S512x256) (k0_off2 d) S16x256.size (k0_off2_inb d)

/-- The rows of device `d` itself in a 512 × 256 buffer. -/
abbrev ownM (a : Memref sig .tc .vmem S512x256 .f32) (d : Dev nD) : Memref sig .tc .vmem S16x256 .f32 :=
  a.slice (Rect.unit (s := S512x256) (k0_off3 d) S16x256.size (k0_off3_inb d)) (fun _ => rfl)

variable {E : Type → Type}

/-- One program after another for each peer index of a list. -/
def each : List (Fin 31) → (Fin 31 → Prog E PUnit) → Prog E PUnit
  | [], _ => pure ⟨⟩
  | k :: l, f => f k >>= fun _ => each l f

/-- As `each`, each program reading a block that is added to the sum so far. -/
def eachAdd : List (Fin 31) → (Fin 31 → Prog E (Vec F S1x16x256 .f32)) → FVec F S16x256 .f32 → Prog E (FVec F S16x256 .f32)
  | [], _, a => pure a
  | k :: l, f, a => f k >>= fun v => eachAdd l f (addf a (shapeCast S16x256 v shapeCasts_S1x16x256_S16x256))

/-- The block a device computes from the sum of the blocks it received and the weights. -/
abbrev mul (a : FVec F S16x256 .f32) (w : Vec F S256x256 .f32) : FVec F S16x256 .f32 :=
  matmul dot_S16x256_S256x256_S16x256_1_0_0_1_n_n none a (shapeCast S256x256 w shapeCasts_S256x256_S256x256) (constant S16x256 .f32 0x00000000#32)

section Flat
variable (arg0 : Memref sig .tc .vmem S512x256 .f32) (arg1 : Memref sig .tc .vmem S256x256 .f32) (arg2 : Memref sig .tc .vmem S512x256 .f32)
  (arg3 : Memref sig .tc .vmem S32x16x256 .f32) (arg4 arg5 arg6 arg7 : DmaSems sig S32)

abbrev barS : Sem sig := (SemArray.scalar (sig.barrier 0 rfl) : Sems sig S_).sem

abbrev Tpu : Type → Type := TpuEff nD τ sig (Elt F) Λ₀ .tc

/-- Tell every peer that this device has arrived. -/
def sigP (d : Dev nD) (k : Fin 31) : Prog (Tpu (F := F)) PUnit := semSignalWord (devA k d) barS 1#32

/-- Send peer `k` its rows of this device's `t`. -/
def sendTP (d : Dev nD) (k : Fin 31) : Prog (Tpu (F := F)) PUnit :=
  Prog.lift (.enqueueDma (peerM arg0 d k) (.remote (Dev.tc (devB k d)) (slotM arg3 (dn k)) (.dma (semAt arg4 (up k)).sem))
    (.dma (semAt arg5 (dn k)).sem) (View.wordExact_bits rfl) ((View.wordExact_bits rfl).reshape _ _) ⟨⟨rfl, Or.inl rfl⟩, trivial⟩)

/-- Wait for the block in slot `k + 1` and read it. -/
def recvTP (k : Fin 31) : Prog (Tpu (F := F)) (Vec F S1x16x256 .f32) := do
  Prog.lift (.waitDma2 (semAt arg5 (up k)).sem (slotM arg3 (up k)) (slotM arg3 (up k)) ((View.wordExact_bits rfl).reshape _ _) ((View.wordExact_bits rfl).reshape _ _))
  Prog.lift (.load arg3 (slotR (up k)).toLoadRect (View.loadsAt_vmem h_S1x16x256))

/-- Send peer `k` this device's rows of the result. -/
def sendOP (d : Dev nD) (k : Fin 31) : Prog (Tpu (F := F)) PUnit :=
  Prog.lift (.enqueueDma (ownM arg2 d) (.remote (Dev.tc (devC k d)) (ownM arg2 d) (.dma (semAt arg6 (up k)).sem))
    (.dma (semAt arg7 (dn k)).sem) (View.wordExact_bits rfl) (View.wordExact_bits rfl) ⟨⟨rfl, Or.inl rfl⟩, trivial⟩)

/-- Wait for the departure of the rows of `t` sent to peer `k`. -/
def waitSTP (d : Dev nD) (k : Fin 31) : Prog (Tpu (F := F)) PUnit :=
  Prog.lift (.waitDma2 (semAt arg4 (up k)).sem (slotM arg3 (dn k)) (peerM arg0 d k) ((View.wordExact_bits rfl).reshape _ _) (View.wordExact_bits rfl))

/-- Wait for the arrival of peer `k`'s rows of the result. -/
def waitROP (d : Dev nD) (k : Fin 31) : Prog (Tpu (F := F)) PUnit :=
  Prog.lift (.waitDma2 (semAt arg7 (up k)).sem (peerM arg2 d k) (peerM arg2 d k) (View.wordExact_bits rfl) (View.wordExact_bits rfl))

/-- Wait for the departure of the rows of the result sent to peer `k`. -/
def waitSOP (d : Dev nD) (k : Fin 31) : Prog (Tpu (F := F)) PUnit :=
  Prog.lift (.waitDma2 (semAt arg6 (up k)).sem (ownM arg2 d) (ownM arg2 d) (View.wordExact_bits rfl) (View.wordExact_bits rfl))

/-- The kernel body as loops over the peers. -/
def flat : Prog (Tpu (F := F)) PUnit := do
  let d : Dev nD ← Prog.lift .deviceId
  each ks (sigP d)
  semWaitWord barS 31#32
  each ks (sendTP arg0 arg3 arg4 arg5 d)
  let v : Vec F S16x256 .f32 ← Prog.lift (.load arg0 (ownR d).toLoadRect (View.loadsAt_vmem h_S16x256))
  let a : FVec F S16x256 .f32 ← eachAdd ks (recvTP arg3 arg5) (shapeCast S16x256 v shapeCasts_S16x256_S16x256)
  let w : Vec F S256x256 .f32 ← Prog.lift (.load arg1 (Rect.unit (s := S256x256) ![0, 0] S256x256.size inb_S256x256_S256x256_0_0).toLoadRect (View.loadsAt_vmem h_S256x256))
  let _ : Vec F S16x256 .f32 ← Prog.lift (.load arg2 (ownR d).toLoadRect (View.loadsAt_vmem h_S16x256))
  Prog.lift (.store arg2 (ownR d) (mul a w) Finset.univ (View.stores_vmem_bits_univ h_S16x256 rfl) (.inl rfl))
  each ks (sendOP arg2 arg6 arg7 d)
  each ks (waitSTP arg0 arg3 arg4 d)
  each ks (waitROP arg2 arg7 d)
  each ks (waitSOP arg2 arg6 d)

/-- The printed body is its loops. -/
theorem body_eq_flat (h0 : arg0.IsWhole) (h1 : arg1.IsWhole) (h2 : arg2.IsWhole) (h3 : arg3.IsWhole) :
    cc0_body (F := F) arg0 h0 arg1 h1 arg2 h2 arg3 h3 arg4 arg5 arg6 arg7 = flat arg0 arg1 arg2 arg3 arg4 arg5 arg6 arg7 := by
  chain_rfl

end Flat

end Cert.KernelIdealProof

end
-- ==== Proof.KernelIdeal.Geometry.lean ====
module

public import proofs.«01_k».proof.Proof.KernelIdeal.Flat
public import proofs.«01_k».proof.Proof.Gen.KernelIdeal.Launch
public import Idealize.ShloMosaic.Lib.Pipeline.Launch
public import Idealize.ShloMosaic.Lib.Pipeline.Kit
public import Idealize.ShloMosaic.Lib.Tactic

/-! # The ring, the blocks of rows and the slots

The ring of 32 devices seen from one of them; the cut of a 512 × 256 buffer into the 32 blocks of 16 rows, one per
device; the cut of the landing buffer into its 32 slots; and what a buffer holds whose blocks were written one by one. -/

@[expose] public section

noncomputable section

namespace Cert.KernelIdealProof

open Cert.KernelIdeal Cert.KernelIdeal.Gen
open Idealize.ShloMosaic Idealize.ShloMosaic.TcCoe Idealize.SL.Sem Idealize.SL.BI
open scoped Idealize.SL.BI

variable {F : FTy → Type}

/-! ## The ring -/

/-- The peer of peer `k` in the mirrored place is the device itself. -/
theorem peer_peer_rev : ∀ (c : Dev nD) (k : Fin 31), peer (peer c k) (Fin.rev k) = c := by decide +kernel
/-- No device is its own peer. -/
theorem peer_ne : ∀ (c : Dev nD) (k : Fin 31), peer c k ≠ c := by decide +kernel
/-- Different places name different peers. -/
theorem peer_inj (c : Dev nD) : Function.Injective (peer c) := fun k k' h => by
  revert c k k'; decide +kernel
/-- For a fixed place, different devices have different peers. -/
theorem peer_inj_left {c c' : Dev nD} {k : Fin 31} (h : peer c k = peer c' k) : c = c' := by
  rw [← peer_peer_rev c k, h, peer_peer_rev]
/-- Every other device is a peer. -/
theorem exists_peer : ∀ c d : Dev nD, d ≠ c → ∃ k, peer c k = d := by decide +kernel

theorem dn_eq (k : Fin 31) : dn k = up (Fin.rev k) := by revert k; decide
theorem dn_rev (k : Fin 31) : dn (Fin.rev k) = up k := by revert k; decide
theorem up_inj : Function.Injective up := by decide
theorem up_ne_zero (k : Fin 31) : up k ≠ 0 := by revert k; decide

/-- The device whose rows land in slot `j` of device `c`. -/
def src (c : Dev nD) (j : Fin 32) : Dev nD := ⟨(c.val + j.val) % 32, Nat.mod_lt _ (by decide)⟩
theorem src_up (c : Dev nD) (k : Fin 31) : src c (up k) = peer c k := rfl

/-- The peer index of slot `j`. -/
def lo (j : Fin 32) : Fin 31 := ⟨j.val - 1, by omega⟩
theorem lo_up (k : Fin 31) : lo (up k) = k := rfl

/-- The devices are the device itself and its peers. -/
theorem univ_dev (c : Dev nD) : (Finset.univ : Finset (Dev nD)) = insert c (Finset.univ.map ⟨peer c, peer_inj c⟩) := by
  ext d
  simp only [Finset.mem_univ, Finset.mem_insert, Finset.mem_map, true_and, Function.Embedding.coeFn_mk, true_iff]
  by_cases h : d = c
  · exact .inl h
  · exact .inr (exists_peer c d h)

/-- The slots are slot zero and the peers' slots. -/
theorem univ_slot : (Finset.univ : Finset (Fin 32)) = insert 0 (Finset.univ.map ⟨up, up_inj⟩) := by decide

/-! ## The blocks of rows -/

/-- Device `d`'s rows, as a rectangle. -/
abbrev rowR (d : Dev nD) : Rect S512x256 := Rect.unit (s := S512x256) (k0_off3 d) S16x256.size (k0_off3_inb d)

theorem mem_rowR (d : Dev nD) (i : S512x256.Idx) : i ∈ (rowR d).set ↔ (i 0 : ℕ) / 16 = d.val := by
  rw [Rect.mem_set_unit]
  have h0 : k0_off3 d 0 = 16 * d.val := by rw [k0_off3_eq]; rfl
  have h1 : k0_off3 d 1 = 0 := by rw [k0_off3_eq]; rfl
  have b1 : (i 1 : ℕ) < 256 := (i 1).isLt
  constructor
  · intro h
    have := h 0
    rw [h0] at this
    have e : S16x256.size 0 = 16 := rfl
    rw [e] at this
    omega
  · intro h a
    match a with
    | ⟨0, _⟩ =>
      show k0_off3 d 0 ≤ (i 0 : ℕ) ∧ (i 0 : ℕ) < k0_off3 d 0 + 16
      rw [h0]; omega
    | ⟨1, _⟩ =>
      show k0_off3 d 1 ≤ (i 1 : ℕ) ∧ (i 1 : ℕ) < k0_off3 d 1 + 256
      rw [h1]; omega

theorem rowR_disjoint {d d' : Dev nD} (h : d ≠ d') : Disjoint (rowR d).set (rowR d').set :=
  Finset.disjoint_left.mpr fun i hi hi' => h (Fin.ext (((mem_rowR d i).mp hi).symm.trans ((mem_rowR d' i).mp hi')))

/-- The device whose rows hold the index `i`. -/
def rowDev (i : S512x256.Idx) : Dev nD := ⟨(i 0 : ℕ) / 16, by have : (i 0 : ℕ) < 512 := (i 0).isLt; show _ < 32; omega⟩
theorem mem_rowR_iff (d : Dev nD) (i : S512x256.Idx) : i ∈ (rowR d).set ↔ rowDev i = d :=
  (mem_rowR d i).trans ⟨fun h => Fin.ext h, fun h => congrArg Fin.val h⟩

theorem off1_eq : ∀ (d : Dev nD) (k : Fin 31), k0_off1 d (BitVec.ofNat 32 (1 + k.val)) = k0_off3 (peer d k) := by decide +kernel
theorem off2_eq (d : Dev nD) : k0_off2 d = k0_off3 d := (k0_off2_eq d).trans (k0_off3_eq d).symm

/-- The rows the body takes for peer `k` are that device's. -/
theorem peerM_eq (a : Memref sig .tc .vmem S512x256 .f32) (d : Dev nD) (k : Fin 31) : peerM a d k = ownM a (peer d k) :=
  Memref.slice_unit_congr a (off1_eq d k) _ _ _ _
theorem ownR_eq (d : Dev nD) : ownR d = rowR d := Rect.unit_congr (off2_eq d) _ _

/-! ## The buffers -/

abbrev tM : Memref sig .tc .vmem S512x256 .f32 := Memref.whole cc0_stg0_0
abbrev wM : Memref sig .tc .vmem S256x256 .f32 := Memref.whole cc0_stg1_0
abbrev oM : Memref sig .tc .vmem S512x256 .f32 := Memref.whole cc0_stg2_0
abbrev cM : Memref sig .tc .vmem S32x16x256 .f32 := Memref.whole cc0_scratch0

/-- The elements of device `d`'s rows, in the buffer of `t` and in the buffer of the result; those of slot `j`. -/
abbrev tSet (d : Dev nD) : Finset S512x256.Idx := (ownM tM d).view.set
abbrev oSet (d : Dev nD) : Finset S512x256.Idx := (ownM oM d).view.set
abbrev cSet (j : Fin 32) : Finset S32x16x256.Idx := (slotM cM j).view.set

theorem tSet_eq (d : Dev nD) : tSet d = (rowR d).set := View.set_slice_whole _ _
theorem oSet_eq (d : Dev nD) : oSet d = (rowR d).set := View.set_slice_whole _ _
theorem cSet_eq (j : Fin 32) : cSet j = (slotR j).set := (View.set_reshape _ _).trans (View.set_slice_whole _ _)

theorem tSet_disjoint (d d' : Dev nD) (h : d ≠ d') : Disjoint (tSet d) (tSet d') := by rw [tSet_eq, tSet_eq]; exact rowR_disjoint h
theorem oSet_disjoint (d d' : Dev nD) (h : d ≠ d') : Disjoint (oSet d) (oSet d') := by rw [oSet_eq, oSet_eq]; exact rowR_disjoint h

theorem tSet_cover : Finset.univ.biUnion tSet = Finset.univ := by
  ext i
  simp only [Finset.mem_biUnion, Finset.mem_univ, true_and, iff_true]
  exact ⟨rowDev i, by rw [tSet_eq]; exact (mem_rowR_iff _ i).mpr rfl⟩
theorem oSet_cover : Finset.univ.biUnion oSet = Finset.univ := by
  ext i
  simp only [Finset.mem_biUnion, Finset.mem_univ, true_and, iff_true]
  exact ⟨rowDev i, by rw [oSet_eq]; exact (mem_rowR_iff _ i).mpr rfl⟩

/-- The slot that holds the index `i`. -/
def slotOf (i : S32x16x256.Idx) : Fin 32 := ⟨(i 0 : ℕ), (i 0).isLt⟩

theorem mem_slotR (j : Fin 32) (i : S32x16x256.Idx) : i ∈ (slotR j).set ↔ slotOf i = j := by
  rw [Rect.mem_set_unit]
  have b1 : (i 1 : ℕ) < 16 := (i 1).isLt
  have b2 : (i 2 : ℕ) < 256 := (i 2).isLt
  constructor
  · intro h
    have : j.val ≤ (i 0 : ℕ) ∧ (i 0 : ℕ) < j.val + 1 := h 0
    exact Fin.ext (by show (i 0 : ℕ) = j.val; omega)
  · intro h a
    have h : (i 0 : ℕ) = j.val := congrArg Fin.val h
    match a with
    | ⟨0, _⟩ => show j.val ≤ (i 0 : ℕ) ∧ (i 0 : ℕ) < j.val + 1; omega
    | ⟨1, _⟩ => show 0 ≤ (i 1 : ℕ) ∧ (i 1 : ℕ) < 0 + 16; omega
    | ⟨2, _⟩ => show 0 ≤ (i 2 : ℕ) ∧ (i 2 : ℕ) < 0 + 256; omega

theorem cSet_disjoint (j j' : Fin 32) (h : j ≠ j') : Disjoint (cSet j) (cSet j') := by
  rw [cSet_eq, cSet_eq]
  exact Finset.disjoint_left.mpr fun i hi hi' => h (((mem_slotR j i).mp hi).symm.trans ((mem_slotR j' i).mp hi'))
theorem load_slot (j : Fin 32) : cM.view.setOn (slotR j).set ⊆ cSet j := by
  have h : cSet j = (cM.view.slice (slotR j)).set := View.set_reshape _ _
  rw [h, View.set_slice]
  exact Finset.Subset.refl _
theorem cSet_cover : Finset.univ.biUnion cSet = Finset.univ := by
  ext i
  simp only [Finset.mem_biUnion, Finset.mem_univ, true_and, iff_true]
  exact ⟨slotOf i, by rw [cSet_eq]; exact (mem_slotR _ i).mpr rfl⟩

/-! ## What the buffers hold -/

/-- A write through a view at one of its elements does not depend on what was there. -/
theorem write_base {sp : Space} {s : Shape} {e : EltTy} (v : View sig .tc sp s e) (f g : v.ty.Contents (Elt F)) (w : s.Idx → Elt F e)
    (i : v.ty.Idx) (hi : i ∈ v.set) : v.write (Elt F) f w Finset.univ i = v.write (Elt F) g w Finset.univ i :=
  View.write_congr (fun _ _ _ => rfl) fun h => absurd hi h

/-- The landing buffer whose slot `j` holds the block `w j`. -/
def slots (f : (cc0_scratch0 : Ref sig .tc).ty.Contents (Elt F)) (w : Fin 32 → FVec F S16x256 .f32) : (cc0_scratch0 : Ref sig .tc).ty.Contents (Elt F) :=
  fun i => (slotM cM (slotOf i)).view.write (Elt F) f (w (slotOf i)) Finset.univ i

/-- A landing buffer into whose slot `j` the block `w j` was written holds there what `slots` holds. -/
theorem slots_on (f g : (cc0_scratch0 : Ref sig .tc).ty.Contents (Elt F)) (w : Fin 32 → FVec F S16x256 .f32) (j : Fin 32) (v : FVec F S16x256 .f32)
    (hv : v = w j) : ∀ i ∈ cSet j, (slotM cM j).view.write (Elt F) g v Finset.univ i = slots f w i := fun i hi => by
  subst hv
  have e : slotOf i = j := (mem_slotR j i).mp (by rw [← cSet_eq]; exact hi)
  unfold slots
  rw [e]
  exact write_base _ _ _ _ _ hi

/-- The buffer of the result whose rows of device `d` hold the block `w d`. -/
def blocks (f : (cc0_stg2_0 : Ref sig .tc).ty.Contents (Elt F)) (w : Dev nD → FVec F S16x256 .f32) : (cc0_stg2_0 : Ref sig .tc).ty.Contents (Elt F) :=
  fun i => (ownM oM (rowDev i)).view.write (Elt F) f (w (rowDev i)) Finset.univ i

/-- A buffer of the result into whose rows of device `d` the block `w d` was written holds there what `blocks` holds. -/
theorem blocks_on (f g : (cc0_stg2_0 : Ref sig .tc).ty.Contents (Elt F)) (w : Dev nD → FVec F S16x256 .f32) (d : Dev nD) (v : FVec F S16x256 .f32)
    (hv : v = w d) : ∀ i ∈ oSet d, (ownM oM d).view.write (Elt F) g v Finset.univ i = blocks f w i := fun i hi => by
  subst hv
  have e : rowDev i = d := (mem_rowR_iff d i).mp (by rw [← oSet_eq]; exact hi)
  unfold blocks
  rw [e]
  exact write_base _ _ _ _ _ hi

/-- Two contents equal on a view's elements are read alike through it. -/
theorem read_on {sp : Space} {s : Shape} {e : EltTy} (v : View sig .tc sp s e) (f g : v.ty.Contents (Elt F)) (h : ∀ i ∈ v.set, f i = g i) :
    v.read (Elt F) f = v.read (Elt F) g := funext fun x => by
  rw [View.read_apply, View.read_apply, h _ (Finset.mem_map_of_mem _ (Finset.mem_univ x))]

theorem read_blocks (f : (cc0_stg2_0 : Ref sig .tc).ty.Contents (Elt F)) (w : Dev nD → FVec F S16x256 .f32) (d : Dev nD) :
    (ownM oM d).view.read (Elt F) (blocks f w) = w d :=
  (read_on (ownM oM d).view _ _ fun i hi => (blocks_on f f w d _ rfl i hi).symm).trans (View.read_write_univ (v := (ownM oM d).view) (Val := Elt F) f (w d))
theorem read_slots (f : (cc0_scratch0 : Ref sig .tc).ty.Contents (Elt F)) (w : Fin 32 → FVec F S16x256 .f32) (j : Fin 32) :
    (slotM cM j).view.read (Elt F) (slots f w) = w j :=
  (read_on (slotM cM j).view _ _ fun i hi => (slots_on f f w j _ rfl i hi).symm).trans (View.read_write_univ (v := (slotM cM j).view) (Val := Elt F) f (w j))

/-- A load of a device's rows reads them. -/
theorem readAt_own (a : Memref sig .tc .vmem S512x256 .f32) (d : Dev nD) (f : a.view.ty.Contents (Elt F)) :
    a.view.readAt (Elt F) (ownR d).toLoadRect f = (ownM a d).view.read (Elt F) f := by
  have h : ∀ (off : Fin 2 → ℕ) (p : ∀ i, off i + S16x256.size i ≤ S512x256.size i), off = k0_off3 d →
      (a.view.slice (Rect.unit (s := S512x256) off S16x256.size p)).read (Elt F) f = (ownM a d).view.read (Elt F) f := by
    rintro _ p rfl; rfl
  exact h _ (k0_off2_inb d) (off2_eq d)

/-- A load of a device's rows touches these rows only, -/
theorem load_own (a : Memref sig .tc .vmem S512x256 .f32) (d : Dev nD) : a.view.setOn (ownR d).toLoadRect.set ⊆ (ownM a d).view.set := by
  have h : ∀ (off : Fin 2 → ℕ) (p : ∀ i, off i + S16x256.size i ≤ S512x256.size i), off = k0_off3 d →
      a.view.setOn (Rect.unit (s := S512x256) off S16x256.size p).toLoadRect.set ⊆ (ownM a d).view.set := by
    rintro _ p rfl
    have e : (ownM a d).view.set = (a.view.slice (Rect.unit (s := S512x256) (k0_off3 d) S16x256.size p)).set := rfl
    rw [e, View.set_slice]; exact Finset.Subset.refl _
  exact h _ (k0_off2_inb d) (off2_eq d)
/-- and a store to them, -/
theorem store_own (a : Memref sig .tc .vmem S512x256 .f32) (d : Dev nD) : (a.access (ownR d)).setOn Finset.univ ⊆ (ownM a d).view.set := by
  have h : ∀ (off : Fin 2 → ℕ) (p : ∀ i, off i + S16x256.size i ≤ S512x256.size i), off = k0_off3 d →
      (a.access (Rect.unit (s := S512x256) off S16x256.size p)).setOn Finset.univ ⊆ (ownM a d).view.set := by
    rintro _ p rfl; exact Finset.Subset.refl _
  exact h _ (k0_off2_inb d) (off2_eq d)
/-- which writes them. -/
theorem write_own (a : Memref sig .tc .vmem S512x256 .f32) (d : Dev nD) (f : a.view.ty.Contents (Elt F)) (w : FVec F S16x256 .f32) :
    (a.access (ownR d)).write (Elt F) f w Finset.univ = (ownM a d).view.write (Elt F) f w Finset.univ := by
  have h : ∀ (off : Fin 2 → ℕ) (p : ∀ i, off i + S16x256.size i ≤ S512x256.size i), off = k0_off3 d →
      (a.access (Rect.unit (s := S512x256) off S16x256.size p)).write (Elt F) f w Finset.univ = (ownM a d).view.write (Elt F) f w Finset.univ := by
    rintro _ p rfl; rfl
  exact h _ (k0_off2_inb d) (off2_eq d)

/-- A load of a slot, taken as a 16 × 256 block, reads the slot. -/
theorem readAt_slot (j : Fin 32) (f : (cc0_scratch0 : Ref sig .tc).ty.Contents (Elt F)) :
    shapeCast S16x256 (cM.view.readAt (Elt F) (slotR j).toLoadRect f) shapeCasts_S1x16x256_S16x256 = (slotM cM j).view.read (Elt F) f := rfl

end Cert.KernelIdealProof

end
-- ==== Proof.KernelIdeal.Protocol.lean ====
module

public import proofs.«01_k».proof.Proof.KernelIdeal.Geometry

/-! # The protocol between the devices

Every device has one barrier cell and four rows of 32 transfer cells: the departures and the arrivals of blocks of `t`,
and those of blocks of the result. Each cell runs one round. A barrier cell is paid by the 31 other devices, one unit each,
and each of them hands over the slot of its landing buffer and the rows of its result buffer that the receiver is to
write; a transfer cell is paid once, by the transfer that names it. Cell `0` of each row is never used. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
/-- The departure and the arrival of blocks of `t`, the departure and the arrival of blocks of the result. -/
abbrev tsCell (c : Dev nD) (j : Fin 32) : GSem nD τ sig := ((c : Thread nD τ), .dma (semAt cc0_scratch1 j).sem)
abbrev trCell (c : Dev nD) (j : Fin 32) : GSem nD τ sig := ((c : Thread nD τ), .dma (semAt cc0_scratch2 j).sem)
abbrev osCell (c : Dev nD) (j : Fin 32) : GSem nD τ sig := ((c : Thread nD τ), .dma (semAt cc0_scratch3 j).sem)
abbrev orCell (c : Dev nD) (j : Fin 32) : GSem nD τ sig := ((c : Thread nD τ), .dma (semAt cc0_scratch4 j).sem)

/-- What a semaphore is for. -/
inductive CK where
  | bar
  | ts (j : Fin 32)
  | tr (j : Fin 32)
  | os (j : Fin 32)
  | or (j : Fin 32)
  | other
deriving DecidableEq

/-- The purpose of a semaphore, by its number. -/
def ck : SemLoc sig → CK
  | .reg _ => .bar
  | .dma q =>
    let j : Fin 32 := ⟨(q.val - 3) % 32, Nat.mod_lt _ (by decide)⟩
    if q.val < 3 then .other else if q.val < 35 then .ts j else if q.val < 67 then .tr j else if q.val < 99 then .os j else .or j

theorem ck_bar : ck (.reg barS) = .bar := rfl
theorem ck_ts : ∀ j, ck (.dma (semAt cc0_scratch1 j).sem) = .ts j := by decide +kernel
theorem ck_tr : ∀ j, ck (.dma (semAt cc0_scratch2 j).sem) = .tr j := by decide +kernel
theorem ck_os : ∀ j, ck (.dma (semAt cc0_scratch3 j).sem) = .os j := by decide +kernel
theorem ck_or : ∀ j, ck (.dma (semAt cc0_scratch4 j).sem) = .or j := by decide +kernel

/-- The credit of a transfer of one block. -/
@[irreducible] def N : ℕ := (ownM oM (0 : Dev nD)).view.dmaCredit
theorem N_pos : 0 < N := by unfold N; exact View.dmaCredit_pos _ (by decide)
/-- Every block transferred has it: a slot, and a device's rows in either buffer. -/
theorem credit_slot : ∀ j : Fin 32, (slotM cM j).view.dmaCredit = N := by unfold N; decide +kernel
theorem credit_t : ∀ d : Dev nD, (ownM tM d).view.dmaCredit = N := by unfold N; decide +kernel
theorem credit_o : ∀ d : Dev nD, (ownM oM d).view.dmaCredit = N := by unfold N; decide +kernel

/-! ## Contents -/

/-- Device `c`'s `t` and its weights, as staged. -/
def tstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Device `d`'s rows of device `s`'s `t`. -/
def tblk (s d : Dev nD) : FVec F S16x256 .f32 := (ownM tM d).view.read (Elt F) (tstg m ρ s)
/-- The sum over the devices of device `d`'s rows of `t`, in the order of the ring from `d` on, -/
def acc (l : List (Fin 31)) (d : Dev nD) : FVec F S16x256 .f32 := l.foldl (fun a k => addf a (tblk m ρ (peer d k) d)) (tblk m ρ d d)
/-- and device `d`'s rows of the result. -/
def yblk (d : Dev nD) : FVec F S16x256 .f32 := mul (acc m ρ ks d) (wstg m ρ d)

/-- Device `p`'s landing buffer, every block landed. -/
def commF (p : Dev nD) : (cc0_scratch0 : Ref sig .tc).ty.Contents (Elt F) :=
  slots (m ((p : Thread nD τ).loc cc0_scratch0)) fun j => tblk m ρ (src p j) p
/-- The whole result. -/
def outF : (cc0_stg2_0 : Ref sig .tc).ty.Contents (Elt F) := blocks (m (((0 : Dev nD) : Thread nD τ).loc cc0_stg2_0)) (yblk m ρ)

/-- Device `d`'s rows of the staged `t` of device `c`. -/
def tPts (c d : Dev nD) : sProp 𝕄 := (ownM tM d).view.loc (c : Thread nD τ) ↦[(ownM tM d).view.set]{fullShare} tstg m ρ c
/-- Slot `j` of device `c`'s landing buffer. -/
def cPts (c : Dev nD) (j : Fin 32) (f : (cc0_scratch0 : Ref sig .tc).ty.Contents (Elt F)) : sProp 𝕄 :=
  (slotM cM j).view.loc (c : Thread nD τ) ↦[(slotM cM j).view.set]{fullShare} f
/-- Device `d`'s rows of the staged result of device `c`. -/
def oPts (c d : Dev nD) (q : PosShare TreeShare) (f : (cc0_stg2_0 : Ref sig .tc).ty.Contents (Elt F)) : sProp 𝕄 :=
  (ownM oM d).view.loc (c : Thread nD τ) ↦[(ownM oM d).view.set]{q} f
/-- The share of a device's own rows of the result that peer `k`'s transfer reads. -/
abbrev shr (k : Fin 31) : PosShare TreeShare := Transfers.dealOf fullShare Finset.univ k

omit [FloatOps F] in
instance tPts_storable (c d : Dev nD) : BI.Storable (upEmb : UEmb _ 𝕄) (tPts (F := F) m ρ c d) := by unfold tPts; infer_instance
omit [FloatOps F] in
instance cPts_storable (c : Dev nD) (j f) : BI.Storable (upEmb : UEmb _ 𝕄) (cPts (F := F) c j f) := by unfold cPts; infer_instance
omit [FloatOps F] in
instance oPts_storable (c d : Dev nD) (q f) : BI.Storable (upEmb : UEmb _ 𝕄) (oPts (F := F) c d q f) := by unfold oPts; infer_instance

/-! ## The schedule -/

/-- What peer `k` of device `p` hands it at the barrier: the slot of the peer's landing buffer and the rows of the peer's
    result buffer that `p` writes. -/
def barPay (p : Dev nD) (k : Fin 31) : sProp 𝕄 :=
  iprop((∃ f, cPts (peer p k) (dn k) f) ∗ ∃ f, oPts (peer p k) p fullShare f)

omit [FloatOps F] in
instance barPay_storable (p : Dev nD) (k : Fin 31) : BI.Storable (upEmb : UEmb _ 𝕄) (barPay (F := F) p k) := by unfold barPay; infer_instance

/-- The duties of a cell's only round. -/
def dutiesOf : CK → Finset (Fin 31)
  | .bar => Finset.univ
  | .ts j | .tr j | .os j | .or j => if j = 0 then ∅ else {0}
  | .other => ∅

/-- What a cell's duty pays over. -/
def payOf (c : Dev nD) : CK → Fin 31 → sProp 𝕄
  | .bar, k => barPay c k
  | .ts j, _ => tPts m ρ c (src c j)
  | .tr j, _ => cPts c j (commF m ρ c)
  | .os j, _ => oPts c c (shr (lo j)) (outF m ρ)
  | .or j, _ => oPts c (src c j) fullShare (outF m ρ)
  | .other, _ => iprop(emp)

def Rd : Rounds.Schedule (GSem nD τ sig) (Fin 31) 𝕄 where
  duties g r := if r = 0 ∧ g.1.2 = .tc then dutiesOf (ck g.2) else ∅
  unitless _ := False
  amount g _ _ := if ck g.2 = .bar then 1 else N
  payload g _ d := payOf m ρ g.1.1 (ck g.2) d
  amount_pos g _ _ _ := by
    by_cases h : ck g.2 = .bar
    · rw [if_pos h]; exact Nat.one_pos
    · rw [if_neg h]; exact N_pos

instance Rd_payload_storable (g : GSem nD τ sig) (r : ℕ) (d : Fin 31) :
    BI.Storable (upEmb : UEmb _ 𝕄) ((Rd (F := F) m ρ).payload g r d) := by
  show BI.Storable upEmb (payOf m ρ g.1.1 (ck g.2) d)
  cases ck g.2 <;> (unfold payOf; infer_instance)

section Sched
variable (c : Dev nD) (k : Fin 31)

theorem duties_tc (sm : SemLoc sig) : (Rd (F := F) m ρ).duties ((c : Thread nD τ), sm) 0 = dutiesOf (ck sm) := by
  dsimp only [Rd]; exact if_pos ⟨rfl, rfl⟩
theorem duties_later (g : GSem nD τ sig) : ∀ r, 1 ≤ r → (Rd (F := F) m ρ).duties g r = ∅ :=
  fun r hr => by dsimp only [Rd]; exact if_neg fun h => by omega

theorem duties_bar : (Rd (F := F) m ρ).duties (barCell c) 0 = Finset.univ := duties_tc m ρ c _
theorem duties_ts : (Rd (F := F) m ρ).duties (tsCell c (up k)) 0 = {0} := by
  rw [duties_tc, ck_ts]; dsimp only [dutiesOf]; exact if_neg (up_ne_zero k)
theorem duties_tr : (Rd (F := F) m ρ).duties (trCell c (up k)) 0 = {0} := by
  rw [duties_tc, ck_tr]; dsimp only [dutiesOf]; exact if_neg (up_ne_zero k)
theorem duties_os : (Rd (F := F) m ρ).duties (osCell c (up k)) 0 = {0} := by
  rw [duties_tc, ck_os]; dsimp only [dutiesOf]; exact if_neg (up_ne_zero k)
theorem duties_or : (Rd (F := F) m ρ).duties (orCell c (up k)) 0 = {0} := by
  rw [duties_tc, ck_or]; dsimp only [dutiesOf]; exact if_neg (up_ne_zero k)

/-- A cell numbered zero has no duty in any round. -/
theorem duties_none (sm : SemLoc sig) (h : dutiesOf (ck sm) = ∅) (r : ℕ) (hr : 0 ≤ r) : (Rd (F := F) m ρ).duties ((c : Thread nD τ), sm) r = ∅ := by
  rcases Nat.eq_zero_or_pos r with rfl | h'
  · rw [duties_tc, h]
  · exact duties_later m ρ _ r h'

theorem amount_bar (d : Fin 31) : (Rd (F := F) m ρ).amount (barCell c) 0 d = 1 := by dsimp only [Rd]; exact if_pos ck_bar
theorem amount_ts (j : Fin 32) (d : Fin 31) : (Rd (F := F) m ρ).amount (tsCell c j) 0 d = N := by
  dsimp only [Rd]; exact if_neg (by rw [ck_ts]; exact fun h => by cases h)
theorem amount_tr (j : Fin 32) (d : Fin 31) : (Rd (F := F) m ρ).amount (trCell c j) 0 d = N := by
  dsimp only [Rd]; exact if_neg (by rw [ck_tr]; exact fun h => by cases h)
theorem amount_os (j : Fin 32) (d : Fin 31) : (Rd (F := F) m ρ).amount (osCell c j) 0 d = N := by
  dsimp only [Rd]; exact if_neg (by rw [ck_os]; exact fun h => by cases h)
theorem amount_or (j : Fin 32) (d : Fin 31) : (Rd (F := F) m ρ).amount (orCell c j) 0 d = N := by
  dsimp only [Rd]; exact if_neg (by rw [ck_or]; exact fun h => by cases h)

theorem expect_bar : (Rd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
/-- A round of one duty expects its amount. -/
theorem expect_one {g : GSem nD τ sig} (h : (Rd (F := F) m ρ).duties g 0 = {0}) (hN : (Rd (F := F) m ρ).amount g 0 0 = N) :
    (Rd (F := F) m ρ).expect g 0 = N := by
  unfold Schedule.expect Schedule.amountOf; rw [h, Finset.sum_singleton, hN]

theorem payload_bar (d : Fin 31) : (Rd (F := F) m ρ).payload (barCell c) 0 d = barPay c d := rfl
theorem payload_ts (d : Fin 31) : (Rd (F := F) m ρ).payload (tsCell c (up k)) 0 d = tPts m ρ c (peer c k) := by
  show payOf m ρ c (ck _) d = _; rw [ck_ts]; rfl
theorem payload_tr (d : Fin 31) : (Rd (F := F) m ρ).payload (trCell c (up k)) 0 d = cPts c (up k) (commF m ρ c) := by
  show payOf m ρ c (ck _) d = _; rw [ck_tr]; rfl
theorem payload_os (d : Fin 31) : (Rd (F := F) m ρ).payload (osCell c (up k)) 0 d = oPts c c (shr k) (outF m ρ) := by
  show payOf m ρ c (ck _) d = _; rw [ck_os]; rfl
theorem payload_or (d : Fin 31) : (Rd (F := F) m ρ).payload (orCell c (up k)) 0 d = oPts c (peer c k) fullShare (outF m ρ) := by
  show payOf m ρ c (ck _) d = _; rw [ck_or]; rfl

/-- The whole round of a barrier cell hands over what every peer hands over, -/
theorem rest_bar : bigSep ((Rd (F := F) m ρ).duties (barCell c) 0 \ ∅) (fun d => (Rd (F := F) m ρ).payload (barCell c) 0 d)
    = bigSep Finset.univ fun k => barPay (F := F) c k := by
  rw [Finset.sdiff_empty, duties_bar]; rfl
/-- that of a transfer cell its only payload. -/
theorem rest_one {g : GSem nD τ sig} (h : (Rd (F := F) m ρ).duties g 0 = {0}) :
    bigSep ((Rd (F := F) m ρ).duties g 0 \ ∅) (fun d => (Rd (F := F) m ρ).payload g 0 d) = (Rd (F := F) m ρ).payload g 0 0 := by
  rw [Finset.sdiff_empty, h, bigSep_singleton]

end Sched

/-! ## What each device owes; the levels -/

/-- `base` and one tally per peer of a list. -/
def tal (base : CellTallies nD τ sig Unit) (f : Fin 31 → CellTallies nD τ sig Unit) : List (Fin 31) → CellTallies nD τ sig Unit
  | [] => base
  | k :: l => tal base f l + f k

theorem tal_pos {base : CellTallies nD τ sig Unit} {f : Fin 31 → CellTallies nD τ sig Unit} {g : GSem nD τ sig} {u : Unit} :
    ∀ {l : List (Fin 31)}, 0 < tal base f l g u → 0 < base g u ∨ ∃ k, 0 < f k g u
  | [], h => .inl h
  | k :: l, h => by
    rw [tal, Pi.add_apply, Finsupp.add_apply] at h
    rcases Nat.eq_zero_or_pos (f k g u) with h0 | h0
    · rw [h0, Nat.add_zero] at h; exact tal_pos h
    · exact .inr ⟨k, h0⟩

/-- What device `c` owes when the blocks of the result for the peers of `l` are still to be sent, -/
def OO (c : Dev nD) (l : List (Fin 31)) : CellTallies nD τ sig Unit := tal 0 (fun k => tallyAt (orCell (peer c k) (dn k)) () N) l
/-- when the blocks of `t` for the peers of `l` are, -/
def OT (c : Dev nD) (l : List (Fin 31)) : CellTallies nD τ sig Unit := tal (OO c ks) (fun k => tallyAt (trCell (peer c k) (dn k)) () N) l
/-- and when the signals to the peers of `l` are. -/
def OB (c : Dev nD) (l : List (Fin 31)) : CellTallies nD τ sig Unit := tal (OT c ks) (fun k => tallyAt (barCell (peer c k)) () 1) l

def L (g : GSem nD τ sig) : Finset Unit := if g.1.2 = .tc then {()} else ∅
/-- Barrier cells stand below the arrivals of blocks of `t`, those below the arrivals of blocks of the result; everything
    else is at the bottom. -/
def lvOf : CK → ℕ
  | .bar => 1
  | .tr _ => 2
  | .or _ => 3
  | _ => 0
def lv (g : GSem nD τ sig) (_ : Unit) : ℕ := lvOf (ck g.2)

theorem L_of_ne (g : GSem nD τ sig) (h : g.1.2 ≠ .tc) : L g = ∅ := if_neg h
theorem L_tc (c : Dev nD) (sm : SemLoc sig) : L ((c : Thread nD τ), sm) = {()} := if_pos rfl

/-- A positive tally names its cell. -/
theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- `O` owes only cells of the devices' main cores whose level is above `n`. -/
def Above (n : ℕ) (O : CellTallies nD τ sig Unit) : Prop := ∀ g u, 0 < O g u → g.1.2 = .tc ∧ n < lvOf (ck g.2)

theorem above_zero (n : ℕ) : Above n 0 := fun g u h => absurd h (Nat.lt_irrefl 0)
theorem above_tally (n : ℕ) (c : Dev nD) (sm : SemLoc sig) (a : ℕ) (h : n < lvOf (ck sm)) : Above n (tallyAt ((c : Thread nD τ), sm) () a) :=
  fun g u hg => by rw [tallyAt_pos hg]; exact ⟨rfl, h⟩
theorem above_tal {n : ℕ} {base : CellTallies nD τ sig Unit} {f : Fin 31 → CellTallies nD τ sig Unit} (hb : Above n base) (hf : ∀ k, Above n (f k))
    (l : List (Fin 31)) : Above n (tal base f l) := fun g u h => by
  rcases tal_pos h with h | ⟨k, h⟩
  · exact hb g u h
  · exact hf k g u h

theorem above_OO (c : Dev nD) (l : List (Fin 31)) : Above 2 (OO c l) :=
  above_tal (above_zero 2) (fun k => above_tally 2 _ _ _ (by rw [ck_or]; show (2 : ℕ) < 3; decide)) l
theorem Above.mono {n n' : ℕ} {O : CellTallies nD τ sig Unit} (h : Above n O) (hn : n' ≤ n) : Above n' O :=
  fun g u hg => ⟨(h g u hg).1, Nat.lt_of_le_of_lt hn (h g u hg).2⟩
theorem above_OT (c : Dev nD) (l : List (Fin 31)) : Above 1 (OT c l) :=
  above_tal ((above_OO c ks).mono (by decide)) (fun k => above_tally 1 _ _ _ (by rw [ck_tr]; show (1 : ℕ) < 2; decide)) l
theorem above_OB (c : Dev nD) (l : List (Fin 31)) : Above 0 (OB c l) :=
  above_tal ((above_OT c ks).mono (by decide)) (fun k => above_tally 0 _ _ _ (by rw [ck_bar]; decide)) l

omit [FloatOps F] in
/-- A device may wait on a semaphore below everything it owes. -/
theorem mayWait (c : Dev nD) (sm : SemLoc sig) (O : CellTallies nD τ sig Unit) (hO : Above (lvOf (ck sm)) O) :
    (levAts L lv : sProp 𝕄) ⊢ MayWait (c : Thread nD τ) sm () O :=
  MayOwe.of_cut (L := L) (lev := lv) (lvOf (ck sm)) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

end Cert.KernelIdealProof

end
-- ==== Proof.KernelIdeal.Rules.lean ====
module

public import proofs.«01_k».proof.Proof.KernelIdeal.Protocol

/-! # The rules of the proof

The invariants every device holds, the rule of a loop over the peers, and the rules of one transfer and of one wait. -/

@[expose] public section

set_option maxRecDepth 100000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The invariants -/

/-- The four rows of transfer semaphores. -/
def arr : Fin 4 → DmaSems sig S32
  | 0 => cc0_scratch1 | 1 => cc0_scratch2 | 2 => cc0_scratch3 | 3 => cc0_scratch4

/-- A device's transfer semaphores, -/
def osem (i : Fin 4 × Fin 32) : SemLoc sig := .dma (semAt (arr i.1) i.2).sem
/-- and all its semaphores of the protocol: the barrier's and those. -/
abbrev CI : Type := Unit ⊕ (Fin 4 × Fin 32)
def csem : CI → SemLoc sig
  | .inl _ => .reg barS
  | .inr i => osem i
abbrev kcell (ci : Dev nD × CI) : GSem nD τ sig := ((ci.1 : Thread nD τ), csem ci.2)

/-- Every cell's invariant, at the names `K`, every cell at round 0 or later, and the levels. -/
def records (K : Dev nD × CI → ℕ) : sProp 𝕄 :=
  iprop((bigSep Finset.univ fun ci : Dev nD × CI => cellInv ER (Rd m ρ) (K ci) (kcell ci))
    ∗ (bigSep Finset.univ fun ci : Dev nD × CI => reached ER (kcell ci) 0) ∗ levAts L lv)

instance records_persistent (K : Dev nD × CI → ℕ) : BI.Persistent (records m ρ K) := by unfold records; infer_instance

theorem inv_elim (K : Dev nD × CI → ℕ) (ci : Dev nD × CI) :
    (bigSep Finset.univ fun ci : Dev nD × CI => (cellInv ER (Rd m ρ) (K ci) (kcell ci) : sProp 𝕄)) ⊢ cellInv ER (Rd m ρ) (K ci) (kcell ci) :=
  bigSep_elim (Finset.mem_univ ci)
theorem reached_elim (ci : Dev nD × CI) :
    (bigSep Finset.univ fun ci : Dev nD × CI => (reached ER (kcell ci) 0 : sProp 𝕄)) ⊢ reached ER (kcell ci) 0 :=
  bigSep_elim (Finset.mem_univ ci)
theorem inv_at (K : Dev nD × CI → ℕ) (c : Dev nD) (i : CI) : records m ρ K ⊢ cellInv ER (Rd m ρ) (K (c, i)) ((c : Thread nD τ), csem i) := by
  unfold records
  iintro ⟨H, -, -⟩
  iapply (inv_elim m ρ K (c, i)); iexact H
theorem reached_at (K : Dev nD × CI → ℕ) (c : Dev nD) (i : CI) : records m ρ K ⊢ reached ER ((c : Thread nD τ), csem i) 0 := by
  unfold records
  iintro ⟨-, H, -⟩
  iapply (reached_elim (F := F) (c, i)); iexact H
theorem lev_at (K : Dev nD × CI → ℕ) : records m ρ K ⊢ levAts L lv := by
  unfold records
  iintro ⟨-, -, H⟩; iexact H

/-! ## Loops -/

theorem bigSep_cons {I : Type} [DecidableEq I] {s : Finset I} {i : I} (h : i ∉ s) (Φ : I → sProp 𝕄) :
    bigSep (insert i s) Φ = iprop(Φ i ∗ bigSep s Φ) := bigSep_insert h

theorem each_nil {E : Type → Type} (f : Fin 31 → Prog E PUnit) : each [] f = .ret ⟨⟩ := rfl
theorem each_cons {E : Type → Type} (k : Fin 31) (l : List (Fin 31)) (f : Fin 31 → Prog E PUnit) : each (k :: l) f = (f k >>= fun _ => each l f) := rfl
theorem eachAdd_nil {E : Type → Type} (f : Fin 31 → Prog E (Vec F S1x16x256 .f32)) (a : FVec F S16x256 .f32) : eachAdd (F := F) [] f a = .ret a := rfl
theorem eachAdd_cons {E : Type → Type} (k : Fin 31) (l : List (Fin 31)) (f : Fin 31 → Prog E (Vec F S1x16x256 .f32)) (a : FVec F S16x256 .f32) :
    eachAdd (F := F) (k :: l) f a = (f k >>= fun v => eachAdd l f (addf a (shapeCast S16x256 v shapeCasts_S1x16x256_S16x256))) := rfl

/-- A loop whose pass at `k` takes `Pre k` to `Post k`, owing `O (k :: l)` before it and `O l` after it. -/
theorem wp_each (c : Dev nD) (R : sProp 𝕄) [BI.Persistent R] (O : List (Fin 31) → CellTallies nD τ sig Unit) (Pre Post : Fin 31 → sProp 𝕄)
    (f : Fin 31 → Prog (Tpu (F := F)) PUnit)
    (step : ∀ k l W (Q : sProp 𝕄), iprop(R ∗ Pre k ∗ owes (c : Thread nD τ) (O (k :: l)) W ∗ ((Post k ∗ ∃ W', owes (c : Thread nD τ) (O l) W') -∗ Q))
      ⊢ wp frame (wpE (defs₀ (F := F)) 𝒱₀ (c : Thread nD τ) none) Set.univ (f k) (fun _ => Q)) :
    ∀ (l : List (Fin 31)), l.Nodup → ∀ (W : Waits sig Unit) (Q : sProp 𝕄),
      iprop(R ∗ bigSep l.toFinset Pre ∗ owes (c : Thread nD τ) (O l) W ∗ ((bigSep l.toFinset Post ∗ ∃ W', owes (c : Thread nD τ) (O []) W') -∗ Q))
        ⊢ wp frame (wpE (defs₀ (F := F)) 𝒱₀ (c : Thread nD τ) none) Set.univ (each l f) (fun _ => Q) := by
  intro l
  induction l with
  | nil =>
    intro _ W Q
    rw [each_nil, wp_ret, List.toFinset_nil, bigSep_empty, bigSep_empty]
    iintro ⟨-, -, HO, Hk⟩
    imodintro
    iapply Hk
    isplitr; · iempintro
    iexists W; iexact HO
  | cons k l ih =>
    intro hl W Q
    have hk : k ∉ l.toFinset := by rw [List.mem_toFinset]; exact (List.nodup_cons.mp hl).1
    rw [each_cons, wp_bind, List.toFinset_cons, bigSep_cons hk, bigSep_cons hk]
    iintro ⟨#HR, ⟨Hp, Hps⟩, HO, Hk⟩
    iapply (step k l W (wp frame (wpE (defs₀ (F := F)) 𝒱₀ (c : Thread nD τ) none) Set.univ (each l f) fun _ => Q))
    isplitr; · iexact HR
    isplitl [Hp]; · iexact Hp
    isplitl [HO]; · iexact HO
    iintro ⟨Hq, ⟨%W', HO⟩⟩
    iapply (ih (List.nodup_cons.mp hl).2 W' Q)
    isplitr; · iexact HR
    isplitl [Hps]; · iexact Hps
    isplitl [HO]; · iexact HO
    iintro ⟨Hqs, HO⟩
    iapply Hk
    isplitl [Hq Hqs]
    · isplitl [Hq]; · iexact Hq
      iexact Hqs
    iexact HO

/-- The same for a loop that adds up the blocks its passes read, pass `k` reading `v k`. -/
theorem wp_eachAdd (c : Dev nD) (R : sProp 𝕄) [BI.Persistent R] (O : List (Fin 31) → CellTallies nD τ sig Unit) (Pre Post : Fin 31 → sProp 𝕄)
    (f : Fin 31 → Prog (Tpu (F := F)) (Vec F S1x16x256 .f32)) (v : Fin 31 → Vec F S1x16x256 .f32)
    (step : ∀ k l W (Q : Vec F S1x16x256 .f32 → sProp 𝕄), iprop(R ∗ Pre k ∗ owes (c : Thread nD τ) (O (k :: l)) W
        ∗ ((Post k ∗ ∃ W', owes (c : Thread nD τ) (O l) W') -∗ Q (v k)))
      ⊢ wp frame (wpE (defs₀ (F := F)) 𝒱₀ (c : Thread nD τ) none) Set.univ (f k) Q) :
    ∀ (l : List (Fin 31)), l.Nodup → ∀ (a : FVec F S16x256 .f32) (W : Waits sig Unit) (Q : FVec F S16x256 .f32 → sProp 𝕄),
      iprop(R ∗ bigSep l.toFinset Pre ∗ owes (c : Thread nD τ) (O l) W ∗ ((bigSep l.toFinset Post ∗ ∃ W', owes (c : Thread nD τ) (O []) W')
          -∗ Q (l.foldl (fun a k => addf a (shapeCast S16x256 (v k) shapeCasts_S1x16x256_S16x256)) a)))
        ⊢ wp frame (wpE (defs₀ (F := F)) 𝒱₀ (c : Thread nD τ) none) Set.univ (eachAdd l f a) Q := by
  intro l
  induction l with
  | nil =>
    intro _ a W Q
    rw [eachAdd_nil (F := F), wp_ret, List.toFinset_nil, bigSep_empty, bigSep_empty, List.foldl_nil]
    iintro ⟨-, -, HO, Hk⟩
    imodintro
    iapply Hk
    isplitr; · iempintro
    iexists W; iexact HO
  | cons k l ih =>
    intro hl a W Q
    have hk : k ∉ l.toFinset := by rw [List.mem_toFinset]; exact (List.nodup_cons.mp hl).1
    rw [eachAdd_cons (F := F), wp_bind, List.toFinset_cons, bigSep_cons hk, bigSep_cons hk, List.foldl_cons]
    iintro ⟨#HR, ⟨Hp, Hps⟩, HO, Hk⟩
    iapply (step k l W _)
    isplitr; · iexact HR
    isplitl [Hp]; · iexact Hp
    isplitl [HO]; · iexact HO
    iintro ⟨Hq, ⟨%W', HO⟩⟩
    iapply (ih (List.nodup_cons.mp hl).2 _ W' Q)
    isplitr; · iexact HR
    isplitl [Hps]; · iexact Hps
    isplitl [HO]; · iexact HO
    iintro ⟨Hqs, HO⟩
    iapply Hk
    isplitl [Hq Hqs]
    · isplitl [Hq]; · iexact Hq
      iexact Hqs
    iexact HO

/-! ## One transfer, one wait -/

/-- A transfer of one block to device `p`: the block's elements and those it fills go in with the two duty tokens, the
    credit of its departure comes out. -/
theorem send_one (K : Dev nD × CI → ℕ) (c p p₀ : Dev nD) (hpp : p₀ = p) (i i' : Fin 4 × Fin 32) {src dst : Memref sig .tc .vmem S16x256 .f32} {sS sem : DmaSem sig}
    (hi : osem i = .dma sS) (hi' : osem i' = .dma sem) {hsc : dst.view.ref.isScScratch = false} {hsrc : src.view.WordExact} {hdst : dst.view.WordExact}
    {hsem : DmaTarget.Typed .vmem (.dma sem) (.remote (p₀ : Thread nD τ) dst (.dma sS) hsc)} {q : PosShare TreeShare}
    {fs : Buf (Elt F) (src.view.loc (c : Thread nD τ))} {fd : Buf (Elt F) (dst.view.loc (p : Thread nD τ))}
    (hN : dst.view.dmaCredit = N)
    (hd : (Rd (F := F) m ρ).duties ((c : Thread nD τ), .dma sS) 0 = {0}) (hd' : (Rd (F := F) m ρ).duties ((p : Thread nD τ), .dma sem) 0 = {0})
    (ha : (Rd (F := F) m ρ).amount ((c : Thread nD τ), .dma sS) 0 0 = N) (ha' : (Rd (F := F) m ρ).amount ((p : Thread nD τ), .dma sem) 0 0 = N)
    (O : CellTallies nD τ sig Unit)
    (hp : (src.view.loc (c : Thread nD τ) ↦[src.view.set]{q} fs) ⊢ (Rd (F := F) m ρ).payload ((c : Thread nD τ), .dma sS) 0 0)
    (hp' : (dst.view.loc (p : Thread nD τ) ↦[dst.view.set]{fullShare} (dst.view.write (Elt F) fd (src.view.read (Elt F) fs) Finset.univ))
      ⊢ (Rd (F := F) m ρ).payload ((p : Thread nD τ), .dma sem) 0 0)
    (W : Waits sig Unit) (Q : sProp 𝕄) :
    iprop(records m ρ K ∗ (src.view.loc (c : Thread nD τ) ↦[src.view.set]{q} fs) ∗ (dst.view.loc (p : Thread nD τ) ↦[dst.view.set]{fullShare} fd)
        ∗ dutyTok ER ((c : Thread nD τ), .dma sS) 0 0 ∗ dutyTok ER ((p : Thread nD τ), .dma sem) 0 0
        ∗ owes (c : Thread nD τ) (O + tallyAt ((p : Thread nD τ), .dma sem) () N) W
        ∗ ((cred (tallyAt ((c : Thread nD τ), .dma sS) () N) ∗ ∃ W', owes (c : Thread nD τ) O W') -∗ Q))
      ⊢ wp frame (wpE (defs₀ (F := F)) 𝒱₀ (c : Thread nD τ) none) Set.univ
          (.op (.enqueueDma src (.remote (p₀ : Thread nD τ) dst (.dma sS) hsc) (.dma sem) hsrc hdst hsem) .ret) (fun _ => Q) := by
  subst hpp
  have hI := inv_at m ρ K c (.inr i)
  have hI' := inv_at m ρ K p₀ (.inr i')
  have hr := reached_at m ρ K c (.inr i)
  have hr' := reached_at m ρ K p₀ (.inr i')
  rw [csem, hi] at hI hr
  rw [csem, hi'] at hI' hr'
  iintro ⟨#HR, Hs, Hd, Hts, Htr, HO, Hk⟩
  iapply (Rounds.wp_send_pointsTo 𝒱₀ ER (Rd m ρ) (c : Thread nD τ) none (κ₁ := K (c, .inr i)) (κ₂ := K (p₀, .inr i'))
      (r₁ := 0) (r₂ := 0) (d₁ := 0) (d₂ := 0) (fd := fd)
      (by rw [hd]; exact Finset.mem_singleton_self _) (by rw [hd']; exact Finset.mem_singleton_self _)
      () () N ((View.amount_dma _ _).trans hN) ha ha' O rfl (W := W) hp hp')
    $$ [HO Hs Hd Hts Htr]
  · isplitr; · iapply hI; iexact HR
    isplitr; · iapply hI'; iexact HR
    isplitl [Hs]; · iexact Hs
    isplitl [Hd]; · iexact Hd
    isplitl [HO]; · iexact HO
    isplitl [Hts]; · iexact Hts
    isplitr; · iapply hr; iexact HR
    isplitl [Htr]; · iexact Htr
    iapply hr'; iexact HR
  iintro ⟨Hcr, HO⟩
  rw [wp_ret]; imodintro
  iapply Hk
  isplitl [Hcr]; · iexact Hcr
  iexists W; iexact HO

/-- A wait for the only round of a transfer cell, at the head of a program: the credit and the position go in, the
    position after the round and the payload come out. -/
theorem wait_one (K : Dev nD × CI → ℕ) (c : Dev nD) {α : Type} (i : Fin 4 × Fin 32) {w : Tpu (F := F) PUnit} {O : CellTallies nD τ sig Unit} {W : Waits sig Unit} {P : sProp 𝕄}
    (hw : ∀ X : PUnit → sProp 𝕄, wpE (defs₀ (F := F)) 𝒱₀ (c : Thread nD τ) none Set.univ w X = waitSpec (c : Thread nD τ) Set.univ (osem i) N X)
    (hd : (Rd (F := F) m ρ).duties ((c : Thread nD τ), osem i) 0 = {0}) (ha : (Rd (F := F) m ρ).amount ((c : Thread nD τ), osem i) 0 0 = N)
    (hp : (Rd (F := F) m ρ).payload ((c : Thread nD τ), osem i) 0 0 = P) (hO : Above (lvOf (ck (osem i))) O)
    (k : PUnit → Prog (Tpu (F := F)) α) (Q : α → sProp 𝕄) :
    iprop(records m ρ K ∗ (atPos ER ((c : Thread nD τ), osem i) 0 ∅ 0 ∗ cred (tallyAt ((c : Thread nD τ), osem i) () N)) ∗ owes (c : Thread nD τ) O W
        ∗ (((atPos ER ((c : Thread nD τ), osem i) 1 ∅ 0 ∗ P) ∗ ∃ W', owes (c : Thread nD τ) O W')
            -∗ wp frame (wpE (defs₀ (F := F)) 𝒱₀ (c : Thread nD τ) none) Set.univ (k ⟨⟩) Q))
      ⊢ wp frame (wpE (defs₀ (F := F)) 𝒱₀ (c : Thread nD τ) none) Set.univ (.op w k) Q := by
  have hM : records m ρ K ⊢ MayWait (c : Thread nD τ) (osem i) () O := by
    have h := mayWait (F := F) c (osem i) O
    have h' := h hO
    have h'' := lev_at (F := F) m ρ K
    exact BI.Entails.trans h'' h'
  iintro ⟨#HR, ⟨Hat, Hcr⟩, HO, Hk⟩
  iapply (Rounds.wp_wait_rest_token 𝒱₀ ER (Rd m ρ) (c : Thread nD τ) none (κ := K (c, .inr i)) hw (Set.mem_univ _) () (O := O) (W := W)
      (R := 0) (m := 0) (T := ∅) ((Nat.zero_add N).trans (expect_one m ρ hd ha).symm)) $$ [Hcr HO Hat]
  · isplitr; · iapply (inv_at m ρ K c (.inr i)); iexact HR
    isplitl [Hcr]; · iexact Hcr
    isplitl [HO]; · iexact HO
    isplitr; · iapply hM; iexact HR
    iexact Hat
  iintro ⟨HO, Hat, -, Hpay⟩
  ihave Hp := (Entails.of_eq ((rest_one m ρ hd).trans hp)) $$ Hpay
  iapply Hk
  isplitl [Hat Hp]
  · isplitl [Hat] <;> iassumption
  iexists _; iexact HO

end Cert.KernelIdealProof

end
-- ==== Proof.KernelIdeal.Steps.lean ====
module

public import proofs.«01_k».proof.Proof.KernelIdeal.Rules

/-! # The passes of the loops

What one pass of each loop of the body takes and gives, at any device and any peer. -/

@[expose] public section

set_option maxRecDepth 100000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The signal to peer `k`: the slot the peer is to fill and the rows it is to write go over. -/
theorem step_sig (K : Dev nD × CI → ℕ) (c : Dev nD) (k : Fin 31) (l : List (Fin 31)) (W : Waits sig Unit) (Q : sProp 𝕄) :
    iprop(records m ρ K ∗ (dutyTok ER (barCell (peer c k)) 0 (Fin.rev k) ∗ (∃ f, cPts c (up k) f) ∗ (∃ f, oPts c (peer c k) fullShare f))
        ∗ owes (c : Thread nD τ) (OB c (k :: l)) W ∗ ((emp ∗ ∃ W', owes (c : Thread nD τ) (OB c l) W') -∗ Q))
      ⊢ wp frame (wpE (defs₀ (F := F)) 𝒱₀ (c : Thread nD τ) none) Set.univ (sigP c k) (fun _ => Q) := by
  unfold sigP
  rw [devA_eq]
  simp only [semSignalWord, Prog.lift]
  iintro ⟨#HR, ⟨Htok, Hc, Ho⟩, HO, Hk⟩
  iapply (Rounds.wp_signal 𝒱₀ ER (Rd m ρ) (c : Thread nD τ) none (dst := (peer c k : Thread nD τ)) (κ := K (peer c k, .inl ()))
      (d := Fin.rev k) (by rw [duties_bar]; exact Finset.mem_univ _) ((amount_bar m ρ (peer c k) (Fin.rev k)).trans (by decide)) () (OB c l) rfl)
    $$ [HO Htok Hc Ho]
  · isplitr; · iapply (inv_at m ρ K (peer c k) (.inl ())); iexact HR
    isplitl [HO]; · iexact HO
    isplitl [Htok]; · iexact Htok
    isplitl [Hc Ho]
    · rw [payload_bar]; unfold barPay; rw [peer_peer_rev, dn_rev]
      isplitl [Hc] <;> iassumption
    iapply (reached_at m ρ K (peer c k) (.inl ())); iexact HR
  iintro HO
  rw [wp_ret]; imodintro
  iapply Hk
  isplitr; · iempintro
  iexists W; iexact HO

/-- The transfer of peer `k`'s rows of `t` into its slot for this device. -/
theorem step_sendT (K : Dev nD × CI → ℕ) (c : Dev nD) (k : Fin 31) (l : List (Fin 31)) (W : Waits sig Unit) (Q : sProp 𝕄) :
    iprop(records m ρ K ∗ (tPts m ρ c (peer c k) ∗ (∃ f, cPts (peer c k) (dn k) f) ∗ dutyTok ER (tsCell c (up k)) 0 0
          ∗ dutyTok ER (trCell (peer c k) (dn k)) 0 0)
        ∗ owes (c : Thread nD τ) (OT c (k :: l)) W
        ∗ ((cred (tallyAt (tsCell c (up k)) () N) ∗ ∃ W', owes (c : Thread nD τ) (OT c l) W') -∗ Q))
      ⊢ wp frame (wpE (defs₀ (F := F)) 𝒱₀ (c : Thread nD τ) none) Set.univ (sendTP tM cM cc0_scratch1 cc0_scratch2 c k) (fun _ => Q) := by
  unfold sendTP
  simp only [peerM_eq, Prog.lift]
  have hO : OT c (k :: l) = OT c l + tallyAt (trCell (peer c k) (dn k)) () N := rfl
  rw [hO]
  simp only [dn_eq]
  iintro ⟨#HR, ⟨Ht, ⟨%f, Hc⟩, Hts, Htr⟩, HO, Hk⟩
  unfold tPts cPts
  have hi : osem (0, up k) = .dma (semAt cc0_scratch1 (up k)).sem := rfl
  have hi' : osem (1, up (Fin.rev k)) = .dma (semAt cc0_scratch2 (up (Fin.rev k))).sem := rfl
  iapply (send_one m ρ K c (peer c k) (devB k c) (devB_eq k c) (0, up k) (1, up (Fin.rev k)) (sS := (semAt cc0_scratch1 (up k)).sem) (sem := (semAt cc0_scratch2 (up (Fin.rev k))).sem)
    (src := ownM tM (peer c k)) (dst := slotM cM (up (Fin.rev k))) (fd := f)
    hi hi' (credit_slot _) (duties_ts m ρ c k) (duties_tr m ρ (peer c k) (Fin.rev k)) (amount_ts m ρ c (up k) 0) (amount_tr m ρ (peer c k) (up (Fin.rev k)) 0)
    (OT c l) (by rw [payload_ts]; unfold tPts; exact BI.Entails.refl _)
    (by
      rw [payload_tr]; unfold cPts commF
      exact Entails.of_eq (pointsTo_congr fun i hi => slots_on _ f _ (up (Fin.rev k)) _
        (by rw [src_up, peer_peer_rev]; rfl) i hi)) W Q)
  isplitr; · iexact HR
  isplitl [Ht]; · iexact Ht
  isplitl [Hc]; · iexact Hc
  isplitl [Hts]; · iexact Hts
  isplitl [Htr]; · iexact Htr
  isplitl [HO]; · iexact HO
  iexact Hk

/-- The transfer of this device's rows of the result into peer `k`'s buffer. -/
theorem step_sendO (K : Dev nD × CI → ℕ) (c : Dev nD) (k : Fin 31) (l : List (Fin 31)) (W : Waits sig Unit) (Q : sProp 𝕄) :
    iprop(records m ρ K ∗ (oPts c c (shr k) (outF m ρ) ∗ (∃ f, oPts (peer c k) c fullShare f) ∗ dutyTok ER (osCell c (up k)) 0 0
          ∗ dutyTok ER (orCell (peer c k) (dn k)) 0 0)
        ∗ owes (c : Thread nD τ) (OO c (k :: l)) W
        ∗ ((cred (tallyAt (osCell c (up k)) () N) ∗ ∃ W', owes (c : Thread nD τ) (OO c l) W') -∗ Q))
      ⊢ wp frame (wpE (defs₀ (F := F)) 𝒱₀ (c : Thread nD τ) none) Set.univ (sendOP oM cc0_scratch3 cc0_scratch4 c k) (fun _ => Q) := by
  unfold sendOP
  simp only [Prog.lift]
  have hO : OO c (k :: l) = OO c l + tallyAt (orCell (peer c k) (dn k)) () N := rfl
  rw [hO]
  simp only [dn_eq]
  iintro ⟨#HR, ⟨Ht, ⟨%f, Hc⟩, Hts, Htr⟩, HO, Hk⟩
  unfold oPts
  have hi : osem (2, up k) = .dma (semAt cc0_scratch3 (up k)).sem := rfl
  have hi' : osem (3, up (Fin.rev k)) = .dma (semAt cc0_scratch4 (up (Fin.rev k))).sem := rfl
  iapply (send_one m ρ K c (peer c k) (devC k c) (devC_eq k c) (2, up k) (3, up (Fin.rev k)) (sS := (semAt cc0_scratch3 (up k)).sem) (sem := (semAt cc0_scratch4 (up (Fin.rev k))).sem)
    (src := ownM oM c) (dst := ownM oM c) (fd := f)
    hi hi' (credit_o _) (duties_os m ρ c k) (duties_or m ρ (peer c k) (Fin.rev k)) (amount_os m ρ c (up k) 0) (amount_or m ρ (peer c k) (up (Fin.rev k)) 0)
    (OO c l) (by rw [payload_os]; unfold oPts; exact BI.Entails.refl _)
    (by
      rw [payload_or, peer_peer_rev]; unfold oPts outF
      exact Entails.of_eq (pointsTo_congr fun i hi => blocks_on _ f _ c _ (read_blocks _ _ c) i hi)) W Q)
  isplitr; · iexact HR
  isplitl [Ht]; · iexact Ht
  isplitl [Hc]; · iexact Hc
  isplitl [Hts]; · iexact Hts
  isplitl [Htr]; · iexact Htr
  isplitl [HO]; · iexact HO
  iexact Hk

/-- The wait for the block of peer `k` and its reading. -/
theorem step_recvT (K : Dev nD × CI → ℕ) (c : Dev nD) (k : Fin 31) (l : List (Fin 31)) (W : Waits sig Unit) (Q : Vec F S1x16x256 .f32 → sProp 𝕄) :
    iprop(records m ρ K ∗ (atPos ER (trCell c (up k)) 0 ∅ 0 ∗ cred (tallyAt (trCell c (up k)) () N))
        ∗ owes (c : Thread nD τ) (OO c ks) W
        ∗ (((atPos ER (trCell c (up k)) 1 ∅ 0 ∗ cPts c (up k) (commF m ρ c)) ∗ ∃ W', owes (c : Thread nD τ) (OO c ks) W')
            -∗ Q (cM.view.readAt (Elt F) (slotR (up k)).toLoadRect (commF m ρ c))))
      ⊢ wp frame (wpE (defs₀ (F := F)) 𝒱₀ (c : Thread nD τ) none) Set.univ (recvTP cM cc0_scratch2 k) Q := by
  unfold recvTP
  simp only [Prog.lift, Prog.bind_op, Prog.bind_ret]
  iintro ⟨#HR, Hpre, HO, Hk⟩
  iapply (wait_one m ρ K c (1, up k) (O := OO c ks) (W := W) (P := cPts c (up k) (commF m ρ c))
    (fun X => by rw [wpE_waitDma2_eq, credit_slot (up k)]; rfl) (duties_tr m ρ c k) (amount_tr m ρ c (up k) 0) (payload_tr m ρ c k 0)
    (by show Above (lvOf (ck (.dma (semAt cc0_scratch2 (up k)).sem))) _; rw [ck_tr]; exact above_OO c ks))
  isplitr; · iexact HR
  isplitl [Hpre]; · iexact Hpre
  isplitl [HO]; · iexact HO
  iintro ⟨⟨Hat, Hc⟩, HO⟩
  unfold cPts
  iapply (wp_load 𝒱₀ (c : Thread nD τ) none Set.univ (m := cM) (S := cSet (up k))
    (load_slot (up k))) $$ Hc
  iintro Hc
  rw [wp_ret]; imodintro
  iapply Hk
  isplitl [Hat Hc]
  · isplitl [Hat]; · iexact Hat
    iexact Hc
  iexact HO

/-- The wait for the departure of the rows of `t` sent to peer `k`, which come back. -/
theorem step_waitST (K : Dev nD × CI → ℕ) (c : Dev nD) (k : Fin 31) (l : List (Fin 31)) (W : Waits sig Unit) (Q : sProp 𝕄) :
    iprop(records m ρ K ∗ (atPos ER (tsCell c (up k)) 0 ∅ 0 ∗ cred (tallyAt (tsCell c (up k)) () N))
        ∗ owes (c : Thread nD τ) 0 W
        ∗ (((atPos ER (tsCell c (up k)) 1 ∅ 0 ∗ tPts m ρ c (peer c k)) ∗ ∃ W', owes (c : Thread nD τ) 0 W') -∗ Q))
      ⊢ wp frame (wpE (defs₀ (F := F)) 𝒱₀ (c : Thread nD τ) none) Set.univ (waitSTP tM cM cc0_scratch1 c k) (fun _ => Q) := by
  unfold waitSTP
  simp only [peerM_eq, Prog.lift]
  iintro ⟨#HR, Hpre, HO, Hk⟩
  iapply (wait_one m ρ K c (0, up k) (O := 0) (W := W) (P := tPts m ρ c (peer c k))
    (fun X => by rw [wpE_waitDma2_eq, credit_t (peer c k)]; rfl) (duties_ts m ρ c k) (amount_ts m ρ c (up k) 0) (payload_ts m ρ c k 0) (above_zero _))
  isplitr; · iexact HR
  isplitl [Hpre]; · iexact Hpre
  isplitl [HO]; · iexact HO
  iintro H
  rw [wp_ret]; imodintro
  iapply Hk; iexact H

/-- The wait for peer `k`'s rows of the result. -/
theorem step_waitRO (K : Dev nD × CI → ℕ) (c : Dev nD) (k : Fin 31) (l : List (Fin 31)) (W : Waits sig Unit) (Q : sProp 𝕄) :
    iprop(records m ρ K ∗ (atPos ER (orCell c (up k)) 0 ∅ 0 ∗ cred (tallyAt (orCell c (up k)) () N))
        ∗ owes (c : Thread nD τ) 0 W
        ∗ (((atPos ER (orCell c (up k)) 1 ∅ 0 ∗ oPts c (peer c k) fullShare (outF m ρ)) ∗ ∃ W', owes (c : Thread nD τ) 0 W') -∗ Q))
      ⊢ wp frame (wpE (defs₀ (F := F)) 𝒱₀ (c : Thread nD τ) none) Set.univ (waitROP oM cc0_scratch4 c k) (fun _ => Q) := by
  unfold waitROP
  simp only [peerM_eq, Prog.lift]
  iintro ⟨#HR, Hpre, HO, Hk⟩
  iapply (wait_one m ρ K c (3, up k) (O := 0) (W := W) (P := oPts c (peer c k) fullShare (outF m ρ))
    (fun X => by rw [wpE_waitDma2_eq, credit_o (peer c k)]; rfl) (duties_or m ρ c k) (amount_or m ρ c (up k) 0) (payload_or m ρ c k 0) (above_zero _))
  isplitr; · iexact HR
  isplitl [Hpre]; · iexact Hpre
  isplitl [HO]; · iexact HO
  iintro H
  rw [wp_ret]; imodintro
  iapply Hk; iexact H

/-- The wait for the departure of the rows of the result sent to peer `k`: the share it read comes back. -/
theorem step_waitSO (K : Dev nD × CI → ℕ) (c : Dev nD) (k : Fin 31) (l : List (Fin 31)) (W : Waits sig Unit) (Q : sProp 𝕄) :
    iprop(records m ρ K ∗ (atPos ER (osCell c (up k)) 0 ∅ 0 ∗ cred (tallyAt (osCell c (up k)) () N))
        ∗ owes (c : Thread nD τ) 0 W
        ∗ (((atPos ER (osCell c (up k)) 1 ∅ 0 ∗ oPts c c (shr k) (outF m ρ)) ∗ ∃ W', owes (c : Thread nD τ) 0 W') -∗ Q))
      ⊢ wp frame (wpE (defs₀ (F := F)) 𝒱₀ (c : Thread nD τ) none) Set.univ (waitSOP oM cc0_scratch3 c k) (fun _ => Q) := by
  unfold waitSOP
  simp only [Prog.lift]
  iintro ⟨#HR, Hpre, HO, Hk⟩
  iapply (wait_one m ρ K c (2, up k) (O := 0) (W := W) (P := oPts c c (shr k) (outF m ρ))
    (fun X => by rw [wpE_waitDma2_eq, credit_o c]; rfl) (duties_os m ρ c k) (amount_os m ρ c (up k) 0) (payload_os m ρ c k 0) (above_zero _))
  isplitr; · iexact HR
  isplitl [Hpre]; · iexact Hpre
  isplitl [HO]; · iexact HO
  iintro H
  rw [wp_ret]; imodintro
  iapply Hk; iexact H

end Cert.KernelIdealProof

end
-- ==== Proof.KernelIdeal.Split.lean ====
module

public import proofs.«01_k».proof.Proof.KernelIdeal.Steps
public import Idealize.ShloMosaic.Lib.Ring

/-! # Buffers held piece by piece

A conjunction over the devices as the device itself and its peers, one over the slots as slot 0 and the peers' slots, and
the three buffers of a device split and joined accordingly. -/

@[expose] public section

set_option maxRecDepth 100000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem peer_not_mem (c : Dev nD) : c ∉ Finset.univ.map ⟨peer c, peer_inj c⟩ := fun h => by
  obtain ⟨k, -, hk⟩ := Finset.mem_map.mp h
  exact peer_ne c k hk
theorem up_not_mem : (0 : Fin 32) ∉ Finset.univ.map ⟨up, up_inj⟩ := fun h => by
  obtain ⟨k, -, hk⟩ := Finset.mem_map.mp h
  exact up_ne_zero k hk

theorem bigSep_devs (c : Dev nD) (Φ : Dev nD → sProp 𝕄) :
    bigSep Finset.univ Φ = iprop(Φ c ∗ bigSep Finset.univ fun k => Φ (peer c k)) := by
  rw [univ_dev c, bigSep_cons (peer_not_mem c), bigSep_map]; rfl
theorem bigSep_slots (Φ : Fin 32 → sProp 𝕄) :
    bigSep Finset.univ Φ = iprop(Φ 0 ∗ bigSep Finset.univ fun k => Φ (up k)) := by
  rw [univ_slot, bigSep_cons up_not_mem, bigSep_map]; rfl
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A conjunction over the transfer semaphores, row by row, each row as its first and the peers'. -/
theorem bigSep_sems (Φ : Fin 4 × Fin 32 → sProp 𝕄) :
    bigSep Finset.univ Φ = iprop((Φ (0, 0) ∗ bigSep Finset.univ fun k => Φ (0, up k)) ∗ (Φ (1, 0) ∗ bigSep Finset.univ fun k => Φ (1, up k))
      ∗ (Φ (2, 0) ∗ bigSep Finset.univ fun k => Φ (2, up k)) ∗ (Φ (3, 0) ∗ bigSep Finset.univ fun k => Φ (3, up k))) := by
  rw [bigSep_univ_prod, bigSep_four, bigSep_slots, bigSep_slots, bigSep_slots, bigSep_slots]

/-- The staged `t` of a device: its own rows and each peer's. -/
theorem t_split (c : Dev nD) : (((c : Thread nD τ).loc cc0_stg0_0) ↦{fullShare} tstg m ρ c : sProp 𝕄)
    = iprop(tPts m ρ c c ∗ bigSep Finset.univ fun k => tPts m ρ c (peer c k)) :=
  (Ring.pointsTo_blocks (ℓ := (c : Thread nD τ).loc cc0_stg0_0) tSet tSet_disjoint tSet_cover (tstg m ρ c)).trans
    (bigSep_devs c fun d => tPts m ρ c d)
/-- The staged result of a device likewise. -/
theorem o_split (c : Dev nD) (f : (cc0_stg2_0 : Ref sig .tc).ty.Contents (Elt F)) : (((c : Thread nD τ).loc cc0_stg2_0) ↦{fullShare} f : sProp 𝕄)
    = iprop(oPts c c fullShare f ∗ bigSep Finset.univ fun k => oPts c (peer c k) fullShare f) :=
  (Ring.pointsTo_blocks (ℓ := (c : Thread nD τ).loc cc0_stg2_0) oSet oSet_disjoint oSet_cover f).trans
    (bigSep_devs c fun d => oPts c d fullShare f)
/-- A device's landing buffer: slot 0 and each peer's slot. -/
theorem c_split (c : Dev nD) (f : (cc0_scratch0 : Ref sig .tc).ty.Contents (Elt F)) : (((c : Thread nD τ).loc cc0_scratch0) ↦{fullShare} f : sProp 𝕄)
    = iprop(cPts c 0 f ∗ bigSep Finset.univ fun k => cPts c (up k) f) :=
  (Ring.pointsTo_blocks (ℓ := (c : Thread nD τ).loc cc0_scratch0) cSet cSet_disjoint cSet_cover f).trans
    (bigSep_slots fun j => cPts c j f)
/-- Its slots, each at contents of its own, are the buffer at some contents. -/
theorem c_join (c : Dev nD) (f g : (cc0_scratch0 : Ref sig .tc).ty.Contents (Elt F)) :
    iprop(cPts c 0 f ∗ bigSep Finset.univ fun k => cPts c (up k) g) ⊢ (iprop(∃ h, ((c : Thread nD τ).loc cc0_scratch0) ↦{fullShare} h) : sProp 𝕄) := by
  have e : iprop(cPts c 0 f ∗ bigSep Finset.univ fun k => cPts c (up k) g)
      = (bigSep Finset.univ fun j => cPts c j (if j = 0 then f else g) : sProp 𝕄) := by
    have h : ∀ k ∈ (Finset.univ : Finset (Fin 31)), (cPts c (up k) (if up k = 0 then f else g) : sProp 𝕄) = cPts c (up k) g :=
      fun k _ => by rw [if_neg (up_ne_zero k)]
    rw [bigSep_slots, if_pos rfl, bigSep_congr h]
  rw [e]
  exact Ring.pointsTo_blocks_join (ℓ := (c : Thread nD τ).loc cc0_scratch0) cSet cSet_disjoint cSet_cover (fun j => if j = 0 then f else g) f
/-- A device's own rows of the result, held in the shares the transfers read. -/
theorem o_deal (c : Dev nD) (f : (cc0_stg2_0 : Ref sig .tc).ty.Contents (Elt F)) :
    (oPts c c fullShare f : sProp 𝕄) = bigSep Finset.univ fun k => oPts c c (shr k) f :=
  Transfers.pointsTo_deal Finset.univ ⟨0, Finset.mem_univ _⟩ fullShare

/-- What is held for each member, held at a choice for each. -/
theorem bigSep_some {X : Type} (Φ : Fin 31 → X → sProp 𝕄) (x : X) :
    (bigSep Finset.univ fun k => Φ k x) ⊢ bigSep Finset.univ fun k => iprop(∃ y, Φ k y) :=
  bigSep_mono fun k _ => show (Φ k x ⊢ iprop(∃ y, Φ k y)) by
    iintro H; iexists x; iexact H

end Cert.KernelIdealProof

end
-- ==== Proof.KernelIdeal.Body.lean ====
module

public import proofs.«01_k».proof.Proof.KernelIdeal.Split
public import Idealize.ShloMosaic.Lib.Pipeline.Value

/-! # The body

The pieces the body is composed of: a whole loop, the barrier's wait, the end of the cells, and the value a device
computes; then the body itself. -/

@[expose] public section

set_option maxRecDepth 100000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ks_nodup : ks.Nodup := by decide
theorem ks_univ : ks.toFinset = Finset.univ := by decide

/-- A loop over all the peers, at the head of a program. -/
theorem wp_ks (c : Dev nD) (R : sProp 𝕄) [BI.Persistent R] (O : List (Fin 31) → CellTallies nD τ sig Unit) (Pre Post : Fin 31 → sProp 𝕄)
    (f : Fin 31 → Prog (Tpu (F := F)) PUnit)
    (step : ∀ k l W (Q : sProp 𝕄), iprop(R ∗ Pre k ∗ owes (c : Thread nD τ) (O (k :: l)) W ∗ ((Post k ∗ ∃ W', owes (c : Thread nD τ) (O l) W') -∗ Q))
      ⊢ wp frame (wpE (defs₀ (F := F)) 𝒱₀ (c : Thread nD τ) none) Set.univ (f k) (fun _ => Q))
    {α : Type} (k : PUnit → Prog (Tpu (F := F)) α) (W : Waits sig Unit) (Q : α → sProp 𝕄) :
    iprop(R ∗ bigSep Finset.univ Pre ∗ owes (c : Thread nD τ) (O ks) W
        ∗ ((bigSep Finset.univ Post ∗ ∃ W', owes (c : Thread nD τ) (O []) W') -∗ wp frame (wpE (defs₀ (F := F)) 𝒱₀ (c : Thread nD τ) none) Set.univ (k ⟨⟩) Q))
      ⊢ wp frame (wpE (defs₀ (F := F)) 𝒱₀ (c : Thread nD τ) none) Set.univ (each ks f >>= k) Q := by
  rw [wp_bind]
  have h := wp_each c R O Pre Post f step ks ks_nodup W (wp frame (wpE (defs₀ (F := F)) 𝒱₀ (c : Thread nD τ) none) Set.univ (k ⟨⟩) Q)
  rw [ks_univ] at h
  exact h

/-- The same at the end of a program. -/
theorem wp_ks_last (c : Dev nD) (R : sProp 𝕄) [BI.Persistent R] (O : List (Fin 31) → CellTallies nD τ sig Unit) (Pre Post : Fin 31 → sProp 𝕄)
    (f : Fin 31 → Prog (Tpu (F := F)) PUnit)
    (step : ∀ k l W (Q : sProp 𝕄), iprop(R ∗ Pre k ∗ owes (c : Thread nD τ) (O (k :: l)) W ∗ ((Post k ∗ ∃ W', owes (c : Thread nD τ) (O l) W') -∗ Q))
      ⊢ wp frame (wpE (defs₀ (F := F)) 𝒱₀ (c : Thread nD τ) none) Set.univ (f k) (fun _ => Q))
    (W : Waits sig Unit) (Q : PUnit → sProp 𝕄) :
    iprop(R ∗ bigSep Finset.univ Pre ∗ owes (c : Thread nD τ) (O ks) W
        ∗ ((bigSep Finset.univ Post ∗ ∃ W', owes (c : Thread nD τ) (O []) W')
            -∗ wp frame (wpE (defs₀ (F := F)) 𝒱₀ (c : Thread nD τ) none) Set.univ (.ret ⟨⟩) Q))
      ⊢ wp frame (wpE (defs₀ (F := F)) 𝒱₀ (c : Thread nD τ) none) Set.univ (each ks f) Q := by
  have h := wp_ks c R O Pre Post f step pure W Q
  rw [bind_pure] at h
  exact h

/-- The same for the loop that adds up what it reads. -/
theorem wp_ksAdd (c : Dev nD) (R : sProp 𝕄) [BI.Persistent R] (O : List (Fin 31) → CellTallies nD τ sig Unit) (Pre Post : Fin 31 → sProp 𝕄)
    (f : Fin 31 → Prog (Tpu (F := F)) (Vec F S1x16x256 .f32)) (v : Fin 31 → Vec F S1x16x256 .f32)
    (step : ∀ k l W (Q : Vec F S1x16x256 .f32 → sProp 𝕄), iprop(R ∗ Pre k ∗ owes (c : Thread nD τ) (O (k :: l)) W
        ∗ ((Post k ∗ ∃ W', owes (c : Thread nD τ) (O l) W') -∗ Q (v k)))
      ⊢ wp frame (wpE (defs₀ (F := F)) 𝒱₀ (c : Thread nD τ) none) Set.univ (f k) Q)
    {α : Type} (k : FVec F S16x256 .f32 → Prog (Tpu (F := F)) α) (a b : FVec F S16x256 .f32)
    (hb : ks.foldl (fun a k => addf a (shapeCast S16x256 (v k) shapeCasts_S1x16x256_S16x256)) a = b) (W : Waits sig Unit) (Q : α → sProp 𝕄) :
    iprop(R ∗ bigSep Finset.univ Pre ∗ owes (c : Thread nD τ) (O ks) W
        ∗ ((bigSep Finset.univ Post ∗ ∃ W', owes (c : Thread nD τ) (O []) W') -∗ wp frame (wpE (defs₀ (F := F)) 𝒱₀ (c : Thread nD τ) none) Set.univ (k b) Q))
      ⊢ wp frame (wpE (defs₀ (F := F)) 𝒱₀ (c : Thread nD τ) none) Set.univ (eachAdd ks f a >>= k) Q := by
  subst hb
  rw [wp_bind]
  have h := wp_eachAdd c R O Pre Post f v step ks ks_nodup a W (fun b => wp frame (wpE (defs₀ (F := F)) 𝒱₀ (c : Thread nD τ) none) Set.univ (k b) Q)
  rw [ks_univ] at h
  exact h

/-! ## What the body starts from and ends with -/

/-- The duty tokens device `c` pays with: at the barriers, and for its transfers' departures and arrivals. -/
def toks (c : Dev nD) : sProp 𝕄 :=
  iprop((bigSep Finset.univ fun k : Fin 31 => dutyTok ER (barCell (peer c k)) 0 (Fin.rev k))
    ∗ (bigSep Finset.univ fun k : Fin 31 => dutyTok ER (tsCell c (up k)) 0 0)
    ∗ (bigSep Finset.univ fun k : Fin 31 => dutyTok ER (trCell (peer c k) (dn k)) 0 0)
    ∗ (bigSep Finset.univ fun k : Fin 31 => dutyTok ER (osCell c (up k)) 0 0)
    ∗ (bigSep Finset.univ fun k : Fin 31 => dutyTok ER (orCell (peer c k) (dn k)) 0 0))
/-- Its positions at its own cells. -/
def posns (c : Dev nD) : sProp 𝕄 :=
  iprop(atPos ER (barCell c) 0 ∅ 0 ∗ bigSep Finset.univ fun i : Fin 4 × Fin 32 => atPos ER ((c : Thread nD τ), osem i) 0 ∅ 0)
/-- The credits it is given: its peers' arrivals at its barrier and their blocks. -/
def creds (c : Dev nD) : sProp 𝕄 :=
  iprop(cred (tallyAt (barCell c) () 31) ∗ (bigSep Finset.univ fun k : Fin 31 => cred (tallyAt (trCell c (up k)) () N))
    ∗ bigSep Finset.univ fun k : Fin 31 => cred (tallyAt (orCell c (up k)) () N))
/-- Its cells at zero. -/
def closed (c : Dev nD) : sProp 𝕄 :=
  iprop(semVal (barCell c) 0 ∗ bigSep Finset.univ fun i : Fin 4 × Fin 32 => semVal ((c : Thread nD τ), osem i) 0)

/-! ## The end of the cells -/

theorem close_one (K : Dev nD × CI → ℕ) (c : Dev nD) (i : CI) (R : ℕ)
    (hR : ∀ r, R ≤ r → (Rd (F := F) m ρ).duties ((c : Thread nD τ), csem i) r = ∅) :
    iprop(records m ρ K ∗ atPos ER ((c : Thread nD τ), csem i) R ∅ 0) ⊢ |={Set.univ}[frame]=> semVal ((c : Thread nD τ), csem i) 0 := by
  iintro ⟨#HR, Hat⟩
  iapply (Rounds.cell_close ER (Rd m ρ) (Set.mem_univ (K (c, i))) (fun h => h) hR)
  isplitr; · iapply (inv_at m ρ K c i); iexact HR
  iexact Hat

theorem none_zero (c : Dev nD) : ∀ i : Fin 4, ∀ r, 0 ≤ r → (Rd (F := F) m ρ).duties ((c : Thread nD τ), csem (.inr (i, 0))) r = ∅
  | 0 => duties_none m ρ c _ (by show dutiesOf (ck (.dma (semAt cc0_scratch1 0).sem)) = ∅; rw [ck_ts]; rfl)
  | 1 => duties_none m ρ c _ (by show dutiesOf (ck (.dma (semAt cc0_scratch2 0).sem)) = ∅; rw [ck_tr]; rfl)
  | 2 => duties_none m ρ c _ (by show dutiesOf (ck (.dma (semAt cc0_scratch3 0).sem)) = ∅; rw [ck_os]; rfl)
  | 3 => duties_none m ρ c _ (by show dutiesOf (ck (.dma (semAt cc0_scratch4 0).sem)) = ∅; rw [ck_or]; rfl)

/-- The cells of one row of transfer semaphores end: the first never used, the others after their round. -/
theorem close_row (K : Dev nD × CI → ℕ) (c : Dev nD) (i : Fin 4) :
    iprop(records m ρ K ∗ atPos ER ((c : Thread nD τ), osem (i, 0)) 0 ∅ 0 ∗ bigSep Finset.univ fun k : Fin 31 => atPos ER ((c : Thread nD τ), osem (i, up k)) 1 ∅ 0)
      ⊢ |={Set.univ}[frame]=> (semVal ((c : Thread nD τ), osem (i, 0)) 0 ∗ bigSep Finset.univ fun k : Fin 31 => semVal ((c : Thread nD τ), osem (i, up k)) 0) := by
  have h : iprop(records m ρ K ∗ bigSep Finset.univ fun k : Fin 31 => atPos ER ((c : Thread nD τ), osem (i, up k)) 1 ∅ 0)
      ⊢ |={Set.univ}[frame]=> bigSep Finset.univ fun k : Fin 31 => semVal ((c : Thread nD τ), osem (i, up k)) 0 :=
    (bigSep_with_persistent fun k _ => close_one m ρ K c (.inr (i, up k)) 1 (duties_later m ρ _)).trans (bigSep_fupd _ _)
  iintro ⟨#HR, H0, Hs⟩
  imod (close_one m ρ K c (.inr (i, 0)) 0 (none_zero m ρ c i)) $$ [H0] with H0
  · isplitr; · iexact HR
    iexact H0
  imod h $$ [Hs] with Hs
  · isplitr; · iexact HR
    iexact Hs
  imodintro
  isplitl [H0]; · iexact H0
  iexact Hs

/-- All of a device's cells end. -/
theorem close_all (K : Dev nD × CI → ℕ) (c : Dev nD) :
    iprop(records m ρ K ∗ atPos ER (barCell c) 1 ∅ 0 ∗ bigSep Finset.univ fun i : Fin 4 => iprop(atPos ER ((c : Thread nD τ), osem (i, 0)) 0 ∅ 0
        ∗ bigSep Finset.univ fun k : Fin 31 => atPos ER ((c : Thread nD τ), osem (i, up k)) 1 ∅ 0))
      ⊢ |={Set.univ}[frame]=> closed c := by
  have h : iprop(records m ρ K ∗ bigSep Finset.univ fun i : Fin 4 => iprop(atPos ER ((c : Thread nD τ), osem (i, 0)) 0 ∅ 0
        ∗ bigSep Finset.univ fun k : Fin 31 => atPos ER ((c : Thread nD τ), osem (i, up k)) 1 ∅ 0))
      ⊢ |={Set.univ}[frame]=> bigSep Finset.univ fun i : Fin 4 => iprop(semVal ((c : Thread nD τ), osem (i, 0)) 0
        ∗ bigSep Finset.univ fun k : Fin 31 => semVal ((c : Thread nD τ), osem (i, up k)) 0) :=
    (bigSep_with_persistent fun i _ => close_row m ρ K c i).trans (bigSep_fupd _ _)
  have e : closed (F := F) c = iprop(semVal (barCell c) 0 ∗ bigSep Finset.univ fun i : Fin 4 => iprop(semVal ((c : Thread nD τ), osem (i, 0)) 0
        ∗ bigSep Finset.univ fun k : Fin 31 => semVal ((c : Thread nD τ), osem (i, up k)) 0)) := by
    unfold closed; rw [bigSep_sems, bigSep_four]
  rw [e]
  iintro ⟨#HR, H0, Hs⟩
  imod (close_one m ρ K c (.inl ()) 1 (duties_later m ρ _)) $$ [H0] with H0
  · isplitr; · iexact HR
    iexact H0
  imod h $$ [Hs] with Hs
  · isplitr; · iexact HR
    iexact Hs
  imodintro
  isplitl [H0]; · iexact H0
  iexact Hs

/-! ## The barrier -/

/-- The wait for every peer's signal: what each hands over comes out. -/
theorem wait_bar (K : Dev nD × CI → ℕ) (c : Dev nD) {α : Type} (k : PUnit → Prog (Tpu (F := F)) α) (W : Waits sig Unit) (Q : α → sProp 𝕄) :
    iprop(records m ρ K ∗ atPos ER (barCell c) 0 ∅ 0 ∗ cred (tallyAt (barCell c) () 31) ∗ owes (c : Thread nD τ) (OT c ks) W
        ∗ ((atPos ER (barCell c) 1 ∅ 0 ∗ (bigSep Finset.univ fun k => barPay (F := F) c k) ∗ ∃ W', owes (c : Thread nD τ) (OT c ks) W')
            -∗ wp frame (wpE (defs₀ (F := F)) 𝒱₀ (c : Thread nD τ) none) Set.univ (k ⟨⟩) Q))
      ⊢ wp frame (wpE (defs₀ (F := F)) 𝒱₀ (c : Thread nD τ) none) Set.univ (semWaitWord barS 31#32 >>= k) Q := by
  have hM : records m ρ K ⊢ MayWait (c : Thread nD τ) (.reg barS) () (OT c ks) := by
    have h := mayWait (F := F) c (.reg barS) (OT c ks) (above_OT c ks)
    exact BI.Entails.trans (lev_at m ρ K) h
  simp only [semWaitWord, Prog.lift, Prog.bind_op, Prog.bind_ret]
  iintro ⟨#HR, Hat, Hcr, HO, Hk⟩
  iapply (Rounds.wp_wait_rest_token 𝒱₀ ER (Rd m ρ) (c : Thread nD τ) none (κ := K (c, .inl ()))
      (wpE_semWait_eq 𝒱₀ (c : Thread nD τ) none Set.univ) (Set.mem_univ _) () (O := OT c ks) (W := W) (R := 0) (m := 0) (T := ∅)
      (by rw [expect_bar]; decide)) $$ [Hcr HO Hat]
  · isplitr; · iapply (inv_at m ρ K c (.inl ())); iexact HR
    isplitl [Hcr]; · iexact Hcr
    isplitl [HO]; · iexact HO
    isplitr; · iapply hM; iexact HR
    iexact Hat
  iintro ⟨HO, Hat, -, Hpay⟩
  ihave Hp := (Entails.of_eq (rest_bar m ρ c)) $$ Hpay
  iapply Hk
  isplitl [Hat]; · iexact Hat
  isplitl [Hp]; · iexact Hp
  iexists _; iexact HO

/-! ## The value -/

theorem own_t (c : Dev nD) : shapeCast S16x256 (tM.view.readAt (Elt F) (ownR c).toLoadRect (tstg m ρ c)) shapeCasts_S16x256_S16x256 = tblk m ρ c c :=
  (shapeCast_self (s := S16x256) _ _).trans (readAt_own tM c (tstg m ρ c))

theorem sum_eq (c : Dev nD) (a : FVec F S16x256 .f32) (ha : a = tblk m ρ c c) :
    ks.foldl (fun a k => addf a (shapeCast S16x256 (cM.view.readAt (Elt F) (slotR (up k)).toLoadRect (commF m ρ c)) shapeCasts_S1x16x256_S16x256)) a
      = acc m ρ ks c := by
  subst ha
  unfold acc
  congr 1
  funext a k
  rw [readAt_slot]; unfold commF; rw [read_slots, src_up]

theorem read_w (f : (cc0_stg1_0 : Ref sig .tc).ty.Contents (Elt F)) :
    wM.view.readAt (Elt F) (Rect.unit (s := S256x256) ![0, 0] S256x256.size inb_S256x256_S256x256_0_0).toLoadRect f = f :=
  Memref.readAt_unit_zero (Elt F) cc0_stg1_0 (funext fun a => by fin_cases a <;> rfl) inb_S256x256_S256x256_0_0 f

end Cert.KernelIdealProof

end
-- ==== Proof.KernelIdeal.Sound.lean ====
module

public import proofs.«01_k».proof.Proof.KernelIdeal.Body
public import proofs.«01_k».proof.Proof.Gen.KernelIdeal.Points

/-! # The body, run

The proof data of the kernel's only point, and the body from what the launch gives it to what it leaves. -/

@[expose] public section

set_option maxRecDepth 100000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Before the body: what it starts from and the landing buffer; -/
def Φ₀ (c : Dev nD) : sProp 𝕄 :=
  iprop((∃ K, records m ρ K) ∗ posns c ∗ toks c ∗ creds c ∗ ∃ f : Buf (Elt F) ((c : Thread nD τ).loc cc0_scratch0), ((c : Thread nD τ).loc cc0_scratch0) ↦{fullShare} f)
/-- after it: the landing buffer and every cell at zero. -/
def Φ₁ (c : Dev nD) : sProp 𝕄 :=
  iprop((∃ f : Buf (Elt F) ((c : Thread nD τ).loc cc0_scratch0), ((c : Thread nD τ).loc cc0_scratch0) ↦{fullShare} f) ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
    | ⟨1, _⟩ => wstg m ρ c
    | ⟨2, _⟩ => outF m ρ
  Φ t := match t with
    | ⟨0, _⟩ => Φ₀ m ρ c
    | ⟨_ + 1, _⟩ => Φ₁ c
  q _ := fullShare
  owed t := match t with
    | ⟨0, _⟩ => OB c ks
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem zip2 (A B : Fin 31 → sProp 𝕄) : iprop(bigSep Finset.univ A ∗ bigSep Finset.univ B) ⊢ bigSep Finset.univ fun k => iprop(A k ∗ B k) :=
  Entails.of_eq (bigSep_sep' _ _ _).symm
theorem zip3 (A B C : Fin 31 → sProp 𝕄) :
    iprop(bigSep Finset.univ A ∗ bigSep Finset.univ B ∗ bigSep Finset.univ C) ⊢ bigSep Finset.univ fun k => iprop(A k ∗ B k ∗ C k) :=
  Entails.of_eq (by rw [bigSep_sep', bigSep_sep'])
theorem zip4 (A B C D : Fin 31 → sProp 𝕄) :
    iprop(bigSep Finset.univ A ∗ bigSep Finset.univ B ∗ bigSep Finset.univ C ∗ bigSep Finset.univ D) ⊢ bigSep Finset.univ fun k => iprop(A k ∗ B k ∗ C k ∗ D k) :=
  Entails.of_eq (by rw [bigSep_sep', bigSep_sep', bigSep_sep'])
theorem unzip2 (A B : Fin 31 → sProp 𝕄) : (bigSep Finset.univ fun k => iprop(A k ∗ B k)) ⊢ iprop(bigSep Finset.univ A ∗ bigSep Finset.univ B) :=
  Entails.of_eq (bigSep_sep' _ _ _)

/-- What the peers hand over at the barrier: the slots, and the rows. -/
theorem bar_split (c : Dev nD) : (bigSep Finset.univ fun k => barPay (F := F) c k)
    ⊢ iprop((bigSep Finset.univ fun k => iprop(∃ f, cPts (peer c k) (dn k) f)) ∗ bigSep Finset.univ fun k => iprop(∃ f, oPts (peer c k) c fullShare f)) :=
  unzip2 _ _

/-- A device's rows of the result, once written. -/
theorem stored (c : Dev nD) (f : (cc0_stg2_0 : Ref sig .tc).ty.Contents (Elt F)) :
    ((oM.access (ownR c)).loc (c : Thread nD τ) ↦[oSet c]{fullShare} ((oM.access (ownR c)).write (Elt F) f (mul (acc m ρ ks c) (wstg m ρ c)) Finset.univ) : sProp 𝕄)
      = oPts c c fullShare (outF m ρ) := by
  rw [write_own]; unfold oPts outF
  exact pointsTo_congr fun i hi => blocks_on _ f (yblk m ρ) c _ rfl i hi

/-- A device's own rows of `t`, as a load finds them. -/
theorem t_own (c : Dev nD) : tPts m ρ c c = ((tM.view.loc (c : Thread nD τ)) ↦[tSet c]{fullShare} tstg m ρ c : sProp 𝕄) := rfl

/-- What the body starts from at its point. -/
def bodyPre (K : Dev nD × CI → ℕ) (c : Dev nD) : sProp 𝕄 :=
  iprop((records m ρ K ∗ posns c ∗ toks c ∗ creds c ∗ ∃ f : Buf (Elt F) ((c : Thread nD τ).loc cc0_scratch0), ((c : Thread nD τ).loc cc0_scratch0) ↦{fullShare} f)
    ∗ (∃ W, owes (c : Thread nD τ) (OB c ks) W) ∗ (((c : Thread nD τ).loc cc0_stg0_0) ↦{fullShare} tstg m ρ c) ∗ (((c : Thread nD τ).loc cc0_stg1_0) ↦{fullShare} wstg m ρ c)
    ∗ ∃ f : Buf (Elt F) ((c : Thread nD τ).loc cc0_stg2_0), ((c : Thread nD τ).loc cc0_stg2_0) ↦{fullShare} f)
/-- What it leaves. -/
def bodyPost (c : Dev nD) : sProp 𝕄 :=
  iprop(Φ₁ c ∗ (∃ W, owes (c : Thread nD τ) 0 W) ∗ (((c : Thread nD τ).loc cc0_stg0_0) ↦{fullShare} tstg m ρ c) ∗ (((c : Thread nD τ).loc cc0_stg1_0) ↦{fullShare} wstg m ρ c)
    ∗ (((c : Thread nD τ).loc cc0_stg2_0) ↦{fullShare} outF m ρ))

set_option maxHeartbeats 1600000 in
/-- The body, run loop by loop. -/
theorem sound_body (K : Dev nD × CI → ℕ) (c : Dev nD) (Q : PUnit → sProp 𝕄) :
    iprop(bodyPre m ρ K c ∗ (bodyPost m ρ c -∗ Q ⟨⟩))
      ⊢ wp frame (wpE (defs₀ (F := F)) 𝒱₀ (c : Thread nD τ) none) Set.univ
          (flat tM wM oM cM cc0_scratch1 cc0_scratch2 cc0_scratch3 cc0_scratch4) Q := by
  unfold flat
  simp only [Prog.lift, Prog.bind_op, Prog.bind_ret, wp_deviceId]
  unfold bodyPre posns toks creds
  rw [bigSep_sems, t_split]
  iintro ⟨⟨⟨#HR, ⟨HatB, ⟨HtsZ, Hts⟩, ⟨HtrZ, Htr⟩, ⟨HosZ, Hos⟩, ⟨HorZ, Hor⟩⟩, ⟨HkB, Hkts, Hktr, Hkos, Hkor⟩, ⟨HcB, Hctr, Hcor⟩, ⟨%fc, Hc⟩⟩,
    ⟨%W, HO⟩, ⟨Hto, Htp⟩, Hw, ⟨%fo, Ho⟩⟩, Hk⟩
  ihave Hc := (Entails.of_eq (c_split c fc)) $$ Hc
  icases Hc with ⟨HcZ, Hc⟩
  ihave Ho := (Entails.of_eq (o_split c fo)) $$ Ho
  icases Ho with ⟨Hoo, Hop⟩
  -- every peer is told
  iapply (wp_ks c (records m ρ K) (OB c) _ _ _ (fun k l W Q => step_sig m ρ K c k l W Q) _ W Q)
  isplitr; · iexact HR
  isplitl [HkB Hc Hop]
  · iapply (zip3 _ _ _)
    isplitl [HkB]; · iexact HkB
    isplitl [Hc]; · iapply (bigSep_some (fun k f => cPts c (up k) f) fc); iexact Hc
    iapply (bigSep_some (fun k f => oPts c (peer c k) fullShare f) fo); iexact Hop
  isplitl [HO]; · iexact HO
  iintro ⟨-, ⟨%W1, HO⟩⟩
  -- every peer has told
  iapply (wait_bar m ρ K c _ W1 Q)
  isplitr; · iexact HR
  isplitl [HatB]; · iexact HatB
  isplitl [HcB]; · iexact HcB
  isplitl [HO]; · iexact HO
  iintro ⟨HatB, Hpay, ⟨%W2, HO⟩⟩
  ihave Hpay := (bar_split c) $$ Hpay
  icases Hpay with ⟨Hcp, Hop⟩
  -- the rows of `t` leave
  iapply (wp_ks c (records m ρ K) (OT c) _ _ _ (fun k l W Q => step_sendT m ρ K c k l W Q) _ W2 Q)
  isplitr; · iexact HR
  isplitl [Htp Hcp Hkts Hktr]
  · iapply (zip4 _ _ _ _)
    isplitl [Htp]; · iexact Htp
    isplitl [Hcp]; · iexact Hcp
    isplitl [Hkts]; · iexact Hkts
    iexact Hktr
  isplitl [HO]; · iexact HO
  iintro ⟨Hcts, ⟨%W3, HO⟩⟩
  -- the device's own rows, then those of its peers
  ihave Hto := (Entails.of_eq (t_own m ρ c)) $$ Hto
  iapply (wp_load 𝒱₀ (c : Thread nD τ) none Set.univ (m := tM) (S := tSet c) (load_own tM c)) $$ Hto
  iintro Hto
  iapply (wp_ksAdd c (records m ρ K) (fun _ => OO c ks) _ _ _ (fun k => cM.view.readAt (Elt F) (slotR (up k)).toLoadRect (commF m ρ c))
    (fun k l W Q => step_recvT m ρ K c k l W Q) _ _ (acc m ρ ks c) (sum_eq m ρ c _ (own_t m ρ c)) W3 Q)
  isplitr; · iexact HR
  isplitl [Htr Hctr]
  · iapply (zip2 _ _)
    isplitl [Htr]; · iexact Htr
    iexact Hctr
  isplitl [HO]; · iexact HO
  iintro ⟨Hpost, ⟨%W4, HO⟩⟩
  ihave Hpost := (unzip2 _ _) $$ Hpost
  icases Hpost with ⟨Htr, Hc⟩
  ihave Hto := (Entails.of_eq (t_own m ρ c).symm) $$ Hto
  -- the product
  iapply (wp_load 𝒱₀ (c : Thread nD τ) none Set.univ (m := wM) (Finset.subset_univ _)) $$ Hw
  iintro Hw
  rw [read_w]
  ihave Hoo := (Entails.of_eq (show oPts c c fullShare fo = ((oM.view.loc (c : Thread nD τ)) ↦[oSet c]{fullShare} fo : sProp 𝕄) from rfl)) $$ Hoo
  iapply (wp_load 𝒱₀ (c : Thread nD τ) none Set.univ (m := oM) (S := oSet c) (load_own oM c)) $$ Hoo
  iintro Hoo
  iapply (wp_store 𝒱₀ (c : Thread nD τ) none Set.univ (m := oM) (r := ownR c) (Mk := Finset.univ) (S := oSet c) (store_own oM c)) $$ Hoo
  iintro Hoo
  ihave Hoo := (Entails.of_eq ((stored m ρ c fo).trans (o_deal c (outF m ρ)))) $$ Hoo
  -- the rows of the result leave
  iapply (wp_ks c (records m ρ K) (OO c) _ _ _ (fun k l W Q => step_sendO m ρ K c k l W Q) _ W4 Q)
  isplitr; · iexact HR
  isplitl [Hoo Hop Hkos Hkor]
  · iapply (zip4 _ _ _ _)
    isplitl [Hoo]; · iexact Hoo
    isplitl [Hop]; · iexact Hop
    isplitl [Hkos]; · iexact Hkos
    iexact Hkor
  isplitl [HO]; · iexact HO
  iintro ⟨Hcos, ⟨%W5, HO⟩⟩
  -- everything sent has left, and the peers' rows of the result are there
  iapply (wp_ks c (records m ρ K) (fun _ => 0) _ _ _ (fun k l W Q => step_waitST m ρ K c k l W Q) _ W5 Q)
  isplitr; · iexact HR
  isplitl [Hts Hcts]
  · iapply (zip2 _ _)
    isplitl [Hts]; · iexact Hts
    iexact Hcts
  isplitl [HO]; · iexact HO
  iintro ⟨Hpost, ⟨%W6, HO⟩⟩
  ihave Hpost := (unzip2 _ _) $$ Hpost
  icases Hpost with ⟨Hts, Htp⟩
  iapply (wp_ks c (records m ρ K) (fun _ => 0) _ _ _ (fun k l W Q => step_waitRO m ρ K c k l W Q) _ W6 Q)
  isplitr; · iexact HR
  isplitl [Hor Hcor]
  · iapply (zip2 _ _)
    isplitl [Hor]; · iexact Hor
    iexact Hcor
  isplitl [HO]; · iexact HO
  iintro ⟨Hpost, ⟨%W7, HO⟩⟩
  ihave Hpost := (unzip2 _ _) $$ Hpost
  icases Hpost with ⟨Hor, Hop⟩
  iapply (wp_ks_last c (records m ρ K) (fun _ => 0) _ _ _ (fun k l W Q => step_waitSO m ρ K c k l W Q) W7 Q)
  isplitr; · iexact HR
  isplitl [Hos Hcos]
  · iapply (zip2 _ _)
    isplitl [Hos]; · iexact Hos
    iexact Hcos
  isplitl [HO]; · iexact HO
  iintro ⟨Hpost, HO⟩
  ihave Hpost := (unzip2 _ _) $$ Hpost
  icases Hpost with ⟨Hos, Hoo⟩
  ihave Ho := (Entails.of_eq ((congrArg (fun X : sProp 𝕄 => iprop(X ∗ bigSep Finset.univ fun k => oPts c (peer c k) fullShare (outF m ρ)))
    (o_deal c (outF m ρ)).symm).trans (o_split c (outF m ρ)).symm)) $$ [Hoo Hop]
  · isplitl [Hoo]; · iexact Hoo
    iexact Hop
  ihave Hc := (c_join c fc (commF m ρ c)) $$ [HcZ Hc]
  · isplitl [HcZ]; · iexact HcZ
    iexact Hc
  -- the cells end
  imod (close_all m ρ K c) $$ [HatB HtsZ Hts HtrZ Htr HosZ Hos HorZ Hor] with Hz
  · isplitr; · iexact HR
    isplitl [HatB]; · iexact HatB
    rw [bigSep_four]
    isplitl [HtsZ Hts]
    · isplitl [HtsZ]; · iexact HtsZ
      iexact Hts
    isplitl [HtrZ Htr]
    · isplitl [HtrZ]; · iexact HtrZ
      iexact Htr
    isplitl [HosZ Hos]
    · isplitl [HosZ]; · iexact HosZ
      iexact Hos
    isplitl [HorZ]; · iexact HorZ
    iexact Hor
  rw [wp_ret]; imodintro
  iapply Hk
  unfold bodyPost Φ₁
  rw [t_split]
  isplitl [Hc Hz]
  · isplitl [Hc]; · iexact Hc
    iexact Hz
  isplitl [HO]; · iexact HO
  isplitl [Hto Htp]
  · isplitl [Hto]; · iexact Hto
    iexact Htp
  isplitl [Hw]; · iexact Hw
  iexact Ho

/-! ## The body's obligation -/

theorem N_one : cfg0.N = 1 := by decide
/-- The only point. -/
def t₀ : Fin cfg0.N := ⟨0, by rw [N_one]; decide⟩
theorem fin_N (t : Fin cfg0.N) : t = t₀ := by
  obtain ⟨t, ht⟩ := t; have := N_one; exact Fin.ext (by simp only [t₀]; omega)

theorem before_t (c : Dev nD) (d) : (dats m ρ 0 c).before (0 : Fin 3) t₀ d = tstg m ρ c := by
  unfold Dat.before; rw [if_pos (fetch0_0 t₀)]; rfl
theorem before_w (c : Dev nD) (d) : (dats m ρ 0 c).before (1 : Fin 3) t₀ d = wstg m ρ c := by
  unfold Dat.before; rw [if_pos (fetch0_1 t₀)]; rfl

/-- What the pipeline gives the body, -/
def oblPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
/-- and what it asks back. -/
def oblPost (c : Dev nD) : sProp 𝕄 :=
  iprop(Φ₁ c ∗ (dats m ρ 0 c).owesAt () t₀.succ ∗ stg c cc0_stg0_0 (tstg m ρ c) ∗ stg c cc0_stg1_0 (wstg m ρ c) ∗ stg c cc0_stg2_0 (outF m ρ))

theorem pre_intro (c : Dev nD) : oblPre m ρ c ⊢ iprop(∃ K, bodyPre m ρ K c) := by
  unfold oblPre Φ₀ bodyPre Dat.owesAt Pipeline.owesWithin
  rw [show (dats m ρ 0 c).owed t₀.castSucc = OB c ks from rfl]
  iintro ⟨⟨⟨%K, HR⟩, Hp, Ht, Hc, Hs⟩, ⟨%W, %hW, HO⟩, ⟨%d0, %g0, %h0, H0⟩, ⟨%d1, %g1, %h1, H1⟩, ⟨%d2, %g2, %h2, H2⟩⟩
  have h0' := h0.trans (before_t m ρ c d0)
  have h1' := h1.trans (before_w m ρ c d1)
  subst h0' h1'
  iexists K
  isplitl [HR Hp Ht Hc Hs]
  · isplitl [HR]; · iexact HR
    isplitl [Hp]; · iexact Hp
    isplitl [Ht]; · iexact Ht
    isplitl [Hc]; · iexact Hc
    iexact Hs
  isplitl [HO]; · iexists W; iexact HO
  isplitl [H0]; · iexact H0
  isplitl [H1]; · iexact H1
  iexists g2; iexact H2

theorem post_elim (c : Dev nD) : bodyPost m ρ c ⊢ oblPost m ρ c := by
  unfold oblPost bodyPost Dat.owesAt Pipeline.owesWithin
  rw [show (dats m ρ 0 c).owed t₀.succ = 0 from rfl]
  iintro ⟨HΦ, ⟨%W, HO⟩, H0, H1, H2⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

/-- The body at the kernel's point does what the pipeline asks of it. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show oblPre m ρ c ⊢ wp frame (wpE (defs₀ (F := F)) 𝒱₀ (c : Thread nD τ) none) Set.univ
    (cc0_body tM (Memref.isWhole_whole _) wM (Memref.isWhole_whole _) oM (Memref.isWhole_whole _) cM (Memref.isWhole_whole _)
      cc0_scratch1 cc0_scratch2 cc0_scratch3 cc0_scratch4) (fun _ => oblPost m ρ c)
  rw [body_eq_flat]
  refine (pre_intro m ρ c).trans ?_
  iintro ⟨%K, H⟩
  iapply (sound_body m ρ K c fun _ => oblPost m ρ c)
  isplitl [H]; · iexact H
  iintro H
  iapply (post_elim m ρ c); iexact H

end Cert.KernelIdealProof

end
-- ==== Proof.KernelIdeal.Launch.lean ====
module

public import proofs.«01_k».proof.Proof.KernelIdeal.Sound
public import proofs.«01_k».proof.Proof.Gen.KernelIdeal.Launch
public import Idealize.ShloMosaic.Lib.Pipeline.CollectiveSegs

/-! # The launch

How the protocol's resources come about when the kernel starts, what every device is owed then, and the run of the whole
program: every execution ends, with the arrays of every device at contents named here and every semaphore at zero. -/

@[expose] public section

set_option maxRecDepth 100000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide +kernel

theorem share_eq (c : Dev nD) (w : Fin cfg0.W) : (dats m ρ 0 c).share w = fullShare := by unfold Dat.share; split <;> rfl

/-- The semaphore of a purpose. -/
def unck : CK → CI
  | .ts j => .inr (0, j) | .tr j => .inr (1, j) | .os j => .inr (2, j) | .or j => .inr (3, j)
  | _ => .inl ()
theorem unck_ck : ∀ i : CI, unck (ck (csem i)) = i
  | .inl _ => rfl
  | .inr (0, j) => (congrArg unck (ck_ts j)).trans rfl
  | .inr (1, j) => (congrArg unck (ck_tr j)).trans rfl
  | .inr (2, j) => (congrArg unck (ck_os j)).trans rfl
  | .inr (3, j) => (congrArg unck (ck_or j)).trans rfl
theorem csem_injective : Function.Injective csem := Function.LeftInverse.injective (g := fun sm => unck (ck sm)) unck_ck

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]
def cells : Finset (GSem nD τ sig) := Finset.univ.map ⟨kcell, kcell_injective⟩

/-- The duties device `c` pays: peer `k`'s barrier, the departure of the block of `t` for peer `k` and its arrival there,
    the departure of the block of the result for peer `k` and its arrival there. -/
def tokOf (x : Dev nD × Fin 5 × Fin 31) : GSem nD τ sig × ℕ × Fin 31 :=
  match x.2.1 with
  | 0 => (barCell (peer x.1 x.2.2), 0, Fin.rev x.2.2)
  | 1 => (tsCell x.1 (up x.2.2), 0, 0)
  | 2 => (trCell (peer x.1 x.2.2) (dn x.2.2), 0, 0)
  | 3 => (osCell x.1 (up x.2.2), 0, 0)
  | 4 => (orCell (peer x.1 x.2.2) (dn x.2.2), 0, 0)

/-- The payer of a duty of device `d`, by the purpose of the cell. -/
def payer (d : Dev nD) (k : Fin 31) : CK → Dev nD × Fin 5 × Fin 31
  | .bar => (peer d k, 0, Fin.rev k)
  | .ts j => (d, 1, lo j)
  | .tr j => (src d j, 2, Fin.rev (lo j))
  | .os j => (d, 3, lo j)
  | .or j => (src d j, 4, Fin.rev (lo j))
  | .other => (d, 0, 0)

theorem payer_tokOf : ∀ x : Dev nD × Fin 5 × Fin 31, payer (tokOf x).1.1.1 (tokOf x).2.2 (ck (tokOf x).1.2) = x := by
  have hb (c : Dev nD) (k : Fin 31) (i : Fin 5) : (src (peer c k) (dn k), i, Fin.rev (lo (dn k))) = (c, i, k) := by
    rw [dn_eq, src_up, peer_peer_rev, lo_up, Fin.rev_rev]
  rintro ⟨c, i, k⟩
  match i with
  | 0 => show payer (peer c k) (Fin.rev k) .bar = _; dsimp only [payer]; rw [peer_peer_rev, Fin.rev_rev]
  | 1 => exact (congrArg (payer c 0) (ck_ts (up k))).trans rfl
  | 2 => exact (congrArg (payer (peer c k) 0) (ck_tr (dn k))).trans (hb c k 2)
  | 3 => exact (congrArg (payer c 0) (ck_os (up k))).trans rfl
  | 4 => exact (congrArg (payer (peer c k) 0) (ck_or (dn k))).trans (hb c k 4)
theorem tokOf_injective : Function.Injective tokOf :=
  Function.LeftInverse.injective (g := fun x : GSem nD τ sig × ℕ × Fin 31 => payer x.1.1.1 x.2.2 (ck x.1.2)) payer_tokOf
def tokens : Finset (GSem nD τ sig × ℕ × Fin 31) := Finset.univ.map ⟨tokOf, tokOf_injective⟩

/-- The launch's element: the staging's and the protocol's. -/
def u₀ : UU := (initOf (Pipeline.cells cfgs cellOf_inj) (Pipeline.launchToks cfgs cellOf_inj), initOf cells tokens)

/-- What of it device `c` gets, -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks c)

/-- the cells' invariants and rounds, -/
def rec0 (K : Dev nD × CI → ℕ) : sProp 𝕄 :=
  iprop((bigSep Finset.univ fun ci : Dev nD × CI => cellInv ER (Rd m ρ) (K ci) (kcell ci))
    ∗ bigSep Finset.univ fun ci : Dev nD × CI => reached ER (kcell ci) 0)
instance rec0_persistent (K : Dev nD × CI → ℕ) : BI.Persistent (rec0 m ρ K) := by unfold rec0; infer_instance

/-- and what each device holds once the invariants stand. -/
def G' (c : Dev nD) : sProp 𝕄 := iprop((∃ K, rec0 m ρ K) ∗ posns c ∗ toks c)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_CI (Φ : CI → sProp 𝕄) : bigSep Finset.univ Φ = iprop(Φ (.inl ()) ∗ bigSep Finset.univ fun i => Φ (.inr i)) := by
  have h : (bigSep Finset.univ fun u : Unit => Φ (.inl u)) = Φ (.inl ()) := by
    rw [show (Finset.univ : Finset Unit) = {()} from rfl, bigSep_singleton]
  rw [bigSep_univ_sum, h]; rfl

theorem fund_all : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_prod, bigSep_five]; rfl
  iintro HX
  imod (Rounds.fund ER (Rd m ρ) cells tokens) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the only one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_eq, bigSep_CI]; unfold Pipeline.ownSems0
  iintro ⟨HS, HB⟩
  isplitl [HB]; · iexact HB
  iexact HS

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What everyone may keep goes to everyone. -/
theorem keep {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CI → ℕ) (c : Dev nD) :
    iprop(rec0 m ρ K ∗ (bigSep Finset.univ fun i : CI => atPos ER (kcell (c, i)) 0 ∅ 0) ∗ toks c) ⊢ G' m ρ c := by
  unfold G' posns
  rw [bigSep_CI]
  iintro ⟨HR, ⟨HB, HA⟩, HT⟩
  isplitl [HR]; · iexists K; iexact HR
  isplitl [HB HA]
  · isplitl [HB]; · iexact HB
    iexact HA
  iexact HT

theorem regroup :
    (bigSep Finset.univ fun c : Dev nD => iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × CI => iprop(∃ κ : ℕ, cellInv ER (Rd m ρ) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (Rd m ρ) κ (kcell ci) : sProp 𝕄))) $$ HI
  icases HK with ⟨%K, #HI⟩
  iapply (keep (R := rec0 m ρ K) fun c _ => G'_intro m ρ K c)
  isplitr
  · unfold rec0; isplitl; · iexact HI
    iexact HR
  · iapply (Entails.of_eq (bigSep_sep' Finset.univ (fun c : Dev nD => bigSep Finset.univ fun i : CI => (atPos ER (kcell (c, i)) 0 ∅ 0 : sProp 𝕄)) toks).symm)
    isplitl [Hat]; · iexact Hat
    iexact Htok

/-- All devices' cells become invariants at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What each device is owed at launch -/

/-- Device `c` owes, for each of its peers, the barrier's signal and the two transfers. -/
def O₀ (c : Dev nD) : CellTallies nD τ sig Unit := OB c ks

theorem tal_apply (base : CellTallies nD τ sig Unit) (f : Fin 31 → CellTallies nD τ sig Unit) (g : GSem nD τ sig) (u : Unit) :
    ∀ l, tal base f l g u = base g u + (l.map fun k => f k g u).sum
  | [] => rfl
  | k :: l => by
    rw [tal, Pi.add_apply, Finsupp.add_apply, tal_apply base f g u l, List.map_cons, List.sum_cons, Nat.add_assoc, Nat.add_comm (List.sum _)]
theorem ks_sum (h : Fin 31 → ℕ) : (ks.map h).sum = ∑ k, h k := by
  rw [Fin.sum_univ_def]; rfl

/-- What the devices together owe one cell of device `c`, when each owes `n` to one cell of each of its peers. -/
theorem owed_sum (c : Dev nD) (sm : SemLoc sig) (s : Fin 31 → SemLoc sig) (n : ℕ) :
    (∑ d : Dev nD, ∑ k : Fin 31, (tallyAt ((peer d k : Thread nD τ), s k) () n : CellTallies nD τ sig Unit) ((c : Thread nD τ), sm) ())
      = ∑ k : Fin 31, if s k = sm then n else 0 := by
  rw [Finset.sum_comm]
  refine Finset.sum_congr rfl fun k _ => ?_
  rw [Finset.sum_eq_single (peer c (Fin.rev k))]
  · have h : peer (peer c (Fin.rev k)) k = c := by have := peer_peer_rev c (Fin.rev k); rwa [Fin.rev_rev] at this
    rw [tallyAt_apply, h]
    by_cases hs : s k = sm
    · rw [if_pos hs, hs, if_pos ⟨rfl, rfl⟩]
    · rw [if_neg hs, if_neg fun h => hs (congrArg Prod.snd h.1).symm]
  · intro d _ hd
    rw [tallyAt_apply, if_neg]
    rintro ⟨h, -⟩
    have h1 : c = peer d k := congrArg (fun g : GSem nD τ sig => g.1.1) h
    exact hd (by rw [h1, peer_peer_rev])
  · exact fun h => absurd (Finset.mem_univ _) h

/-- What device `d` owes a cell. -/
theorem O₀_apply (d : Dev nD) (g : GSem nD τ sig) : O₀ d g ()
    = ((∑ k : Fin 31, (tallyAt (orCell (peer d k) (dn k)) () N : CellTallies nD τ sig Unit) g ())
        + ∑ k : Fin 31, (tallyAt (trCell (peer d k) (dn k)) () N : CellTallies nD τ sig Unit) g ())
      + ∑ k : Fin 31, (tallyAt (barCell (peer d k)) () 1 : CellTallies nD τ sig Unit) g () := by
  unfold O₀ OB OT OO
  have h0 : (0 : CellTallies nD τ sig Unit) g () = 0 := rfl
  rw [tal_apply, tal_apply, tal_apply, ks_sum, ks_sum, ks_sum, h0, Nat.zero_add]

theorem owed_all (c : Dev nD) (sm : SemLoc sig) : (∑ d : Dev nD, O₀ d ((c : Thread nD τ), sm) ())
    = ((∑ k : Fin 31, if (SemLoc.dma (semAt cc0_scratch4 (dn k)).sem : SemLoc sig) = sm then N else 0)
        + ∑ k : Fin 31, if (SemLoc.dma (semAt cc0_scratch2 (dn k)).sem : SemLoc sig) = sm then N else 0)
      + ∑ _k : Fin 31, if (SemLoc.reg barS : SemLoc sig) = sm then 1 else 0 := by
  rw [← owed_sum c sm (fun k => .dma (semAt cc0_scratch4 (dn k)).sem) N, ← owed_sum c sm (fun k => .dma (semAt cc0_scratch2 (dn k)).sem) N,
    ← owed_sum c sm (fun _ => .reg barS) 1, ← Finset.sum_add_distrib, ← Finset.sum_add_distrib]
  exact Finset.sum_congr rfl fun d _ => O₀_apply d _

theorem sum_none (s : Fin 31 → SemLoc sig) (sm : SemLoc sig) (n : ℕ) (h : ∀ k, ck (s k) ≠ ck sm) : (∑ k : Fin 31, if s k = sm then n else 0) = 0 :=
  Finset.sum_eq_zero fun k _ => if_neg fun e => h k (congrArg ck e)
theorem sum_single (s : Fin 31 → SemLoc sig) (sm : SemLoc sig) (n : ℕ) (k : Fin 31) (h : ∀ k', s k' = sm ↔ k' = Fin.rev k) :
    (∑ k : Fin 31, if s k = sm then n else 0) = n := by
  rw [Finset.sum_congr rfl fun k' _ => if_congr (h k') rfl rfl, Finset.sum_ite_eq' Finset.univ (Fin.rev k) fun _ => n, if_pos (Finset.mem_univ _)]

theorem dn_iff {a : Fin 32 → SemLoc sig} (f : Fin 32 → CK) (hf : Function.Injective f) (ha : ∀ j, ck (a j) = f j) (k k' : Fin 31) :
    a (dn k') = a (up k) ↔ k' = Fin.rev k := by
  constructor
  · intro h
    have h1 : dn k' = up k := hf (by rw [← ha, ← ha, h])
    rw [dn_eq] at h1
    rw [← up_inj h1, Fin.rev_rev]
  · rintro rfl
    rw [dn_rev]

theorem owed_bar (c : Dev nD) : (∑ d : Dev nD, O₀ d (barCell c) ()) = 31 := by
  rw [owed_all, sum_none _ _ _ fun k h => (by rw [ck_or] at h; cases h), sum_none _ _ _ fun k h => (by rw [ck_tr] at h; cases h),
    Finset.sum_congr rfl fun k _ => if_pos rfl]
  rfl
theorem owed_tr (c : Dev nD) (k : Fin 31) : (∑ d : Dev nD, O₀ d (trCell c (up k)) ()) = N := by
  rw [owed_all, sum_none _ _ _ fun k' h => (by rw [ck_or, ck_tr] at h; cases h),
    sum_single _ _ _ k (dn_iff (a := fun j => .dma (semAt cc0_scratch2 j).sem) .tr (fun _ _ h => by cases h; rfl) ck_tr k),
    sum_none (fun _ => .reg barS) _ _ fun k' h => (by rw [ck_tr] at h; cases h), Nat.zero_add, Nat.add_zero]
theorem owed_or (c : Dev nD) (k : Fin 31) : (∑ d : Dev nD, O₀ d (orCell c (up k)) ()) = N := by
  rw [owed_all, sum_single _ _ _ k (dn_iff (a := fun j => .dma (semAt cc0_scratch4 j).sem) .or (fun _ _ h => by cases h; rfl) ck_or k),
    sum_none _ _ _ fun k' h => (by rw [ck_tr, ck_or] at h; cases h),
    sum_none (fun _ => .reg barS) _ _ fun k' h => (by rw [ck_or] at h; cases h), Nat.add_zero]

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_creds (c : Dev nD) : (Pipeline.launchCred O₀ c : sProp 𝕄) ⊢ creds c := by
  unfold Pipeline.launchCred creds
  have h (Φ : SemLoc sig → sProp 𝕄) : bigSep Finset.univ Φ ⊢ bigSep Finset.univ fun i : CI => Φ (csem i) := by
    have e := bigSep_map (s := (Finset.univ : Finset CI)) (e := ⟨csem, csem_injective⟩) (Φ := Φ)
    exact (bigSep_subset (Finset.subset_univ _)).trans (Entails.of_eq e)
  refine (h _).trans ?_
  rw [bigSep_CI, bigSep_sems]
  rw [show (tallyAt (barCell c) () 31 : CellTallies nD τ sig Unit) = _ from (launch_at _ _ (owed_bar c)).symm,
    bigSep_congr (s := Finset.univ) fun k _ => congrArg cred (launch_at _ _ (owed_tr c k)).symm,
    bigSep_congr (s := Finset.univ) fun k _ => congrArg cred (launch_at _ _ (owed_or c k)).symm]
  iintro ⟨HB, -, ⟨-, HT⟩, -, -, HO⟩
  isplitl [HB]; · iexact HB
  isplitl [HT]; · iexact HT
  iexact HO

/-! ## The run -/

/-- What device `c` enters the kernel with. -/
def start (c : Dev nD) : sProp 𝕄 := iprop((∃ K, records m ρ K) ∗ posns c ∗ toks c ∗ creds c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' records rec0
  iintro ⟨-, Hlev, Hcr, -, ⟨%K, HI, HR⟩, HP, HT⟩
  ihave Hc := (launch_creds (F := F) c) $$ Hcr
  imodintro
  isplitl
  · isplitl [HI HR Hlev]
    · iexists K
      isplitl [HI]; · iexact HI
      isplitl [HR]; · iexact HR
      iexact Hlev
    isplitl [HP]; · iexact HP
    isplitl [HT]; · iexact HT
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start
  iintro ⟨⟨HR, HP, HT, HC⟩, -, Hf⟩
  isplitl [HR]; · iexact HR
  isplitl [HP]; · iexact HP
  isplitl [HT]; · iexact HT
  isplitl [HC]; · iexact HC
  iexact Hf

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ closed Pipeline.ownSems0
  iintro ⟨Hf, HB, HS⟩
  isplitl [HB]; · iexact HB
  isplitl [HS]; · iexact HS
  iexact Hf

theorem waits (c : Dev nD) : (levAts L lv : sProp 𝕄) ⊢ Pipeline.cellsWaits cfgs (dats m ρ) () 0 c :=
  Pipeline.cellsWaits_intro cfgs (dats m ρ) () 0 c fun w s t => by
    have hq : ck (.dma ((cfg0.win w).sem s)) = .other := by fin_cases w <;> fin_cases s <;> rfl
    refine mayWait c _ _ ?_
    rw [show ck (.dma (((cfgs 0).win w).sem s)) = .other from hq]
    rcases t with ⟨_ | _, ht⟩
    · exact above_OB c ks
    · exact above_zero 0

/-- The arrays' final contents, as the staging leaves them, -/
def finalA (c : Dev nD) (w : Fin cfg0.W) : Buf (Elt F) ((cfg0.win w).arr.view.loc (c : Thread nD τ)) := (dats m ρ 0 c).arrAt w cfg0.N
/-- and that a final state has them. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters every execution of the program on the 32 devices ends, nothing faulting; every final
    state has each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run leaves both argument arrays as they were and every semaphore at zero, -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans ((dats (F := F) m ρ 0 c).arrAt_in 0 rfl _), (h.1 c 1).trans ((dats (F := F) m ρ 0 c).arrAt_in 1 rfl _)⟩, h.2⟩)
    (run_main m ρ)

/-- and every device's result array at the staging's output. -/
theorem value_run : θ_run defs (onTc (τ := τ) (main (F := F))) ⟨m, fun _ => 0, ρ⟩ (fun r => ∀ c : Dev nD,
      r.2.mem ((c.tc : Thread nD τ).loc main_v1) = finalA m ρ c 2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h.1 c 2, (h.1 c 0).trans ((dats (F := F) m ρ 0 c).arrAt_in 0 rfl _), (h.1 c 1).trans ((dats (F := F) m ρ 0 c).arrAt_in 1 rfl _)⟩)
    (run_main m ρ)

end Cert.KernelIdealProof

end
-- ==== Proof.KernelIdeal.Result.lean ====
module

public import proofs.«01_k».proof.Proof.KernelIdeal.Launch
public import Idealize.ShloMosaic.Lib.Pipeline.ValueKit
public import Idealize.ShloMosaic.Lib.MatmulPlain

/-! # The result, element by element

Every device's result array after the run, read at a row and a column over the extended reals: the sum over the contracted
coordinate of the devices' summed `t` times the weights. -/

@[expose] public section

set_option maxRecDepth 100000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Any
variable {F : FTy → Type} [FloatOps F]
variable (m : (ℓ : Loc nD τ sig) → Buf (Elt F) ℓ) (ρ : Dev nD → PrngReg)

/-- The staged copies are the arrays. -/
theorem tstg_eq (c : Dev nD) : tstg m ρ c = m ((c : Thread nD τ).loc main_arg0) := by
  funext x
  unfold tstg
  have h : (win0_0.blk (0 : Fin 1)).view.emb x = x := by
    funext a; apply Fin.ext
    exact Pipeline.Window.rect_emb_val_of_index_zero win0_0 (0 : Fin 1) a (by revert a; decide) x
  rw [View.read_apply, h]; rfl
theorem wstg_eq (c : Dev nD) : wstg m ρ c = m ((c : Thread nD τ).loc main_arg1) := by
  funext x
  unfold wstg
  have h : (win0_1.blk (0 : Fin 1)).view.emb x = x := by
    funext a; apply Fin.ext
    exact Pipeline.Window.rect_emb_val_of_index_zero win0_1 (0 : Fin 1) a (by revert a; decide) x
  rw [View.read_apply, h]; rfl

/-- The result's array ends as the staged result. -/
theorem final_out (c : Dev nD) : finalA m ρ c 2 = outF m ρ := by
  unfold finalA
  exact (dats m ρ 0 c).arrAt_eq_of_after_last 2 (⟨0, by decide +kernel⟩ : Fin cfg0.N) (by decide +kernel) _ fun j => rfl

/-- Element `x` of device `d`'s rows is in row `16 d + x 0`. -/
theorem own_row (a : Memref sig .tc .vmem S512x256 .f32) (d : Dev nD) (x : S16x256.Idx) :
    (ownM a d).view.emb x = a.view.emb (ValueIdx.ix2 ⟨16 * d.val + (x 0).val, by have h := (x 0).isLt; have h' := d.isLt; have e : S16x256.size 0 = 16 := rfl; have e' : nD = 32 := rfl; omega⟩ (x 1)) := by
  show a.view.emb ((rowR d).emb x) = _
  congr 1
  have h0 : k0_off3 d 0 = 16 * d.val := by rw [k0_off3_eq]; rfl
  have h1 : k0_off3 d 1 = 0 := by rw [k0_off3_eq]; rfl
  funext i; apply Fin.ext
  match i with
  | ⟨0, _⟩ => show k0_off3 d 0 + 1 * (x 0).val = 16 * d.val + (x 0).val; rw [h0, Nat.one_mul]
  | ⟨1, _⟩ => show k0_off3 d 1 + 1 * (x 1).val = (x 1).val; rw [h1, Nat.one_mul, Nat.zero_add]

/-- The staged result at row `16 d + i`. -/
theorem out_at (d : Dev nD) (x : S16x256.Idx) (j : S512x256.Idx) (h0 : (j 0).val = 16 * d.val + (x 0).val) (h1 : (j 1).val = (x 1).val) :
    outF m ρ j = yblk m ρ d x := by
  have hj : (ownM oM d).view.emb x = j := by
    rw [own_row]
    funext i; apply Fin.ext
    match i with
    | ⟨0, _⟩ => exact h0.symm
    | ⟨1, _⟩ => exact h1.symm
  have h := congrFun (read_blocks (m (((0 : Dev nD) : Thread nD τ).loc cc0_stg2_0)) (yblk m ρ) d) x
  rw [View.read_apply, hj] at h
  exact h

end Any

/-! ## Over the extended reals -/

variable (m : (ℓ : Loc nD τ sig) → Buf (Elt Ideal) ℓ) (ρ : Dev nD → PrngReg)

theorem fold_add (g : Fin 31 → FVec Ideal S16x256 .f32) (x : S16x256.Idx) :
    ∀ (l : List (Fin 31)) (a : FVec Ideal S16x256 .f32), (l.foldl (fun a k => addf a (g k)) a x : EReal) = (a x : EReal) + (l.map fun k => (g k x : EReal)).sum
  | [], a => (add_zero _).symm
  | k :: l, a => by
    rw [List.foldl_cons, fold_add g x l, List.map_cons, List.sum_cons, ← add_assoc]; rfl

/-- The sum in the order of the ring is the sum over the devices. -/
theorem acc_apply (d : Dev nD) (x : S16x256.Idx) : (acc m ρ ks d x : EReal) = ∑ s : Dev nD, (tblk m ρ s d x : EReal) := by
  unfold acc
  rw [fold_add, univ_dev d, Finset.sum_insert, Finset.sum_map, ks_eq, ← Fin.sum_univ_def]
  · rfl
  · rw [Finset.mem_map]
    rintro ⟨k, -, h⟩
    exact peer_ne d k h

/-- Device `s`'s `t` at the rows of device `d`. -/
theorem tblk_apply (s d : Dev nD) (x : S16x256.Idx) (j : S512x256.Idx) (h0 : (j 0).val = 16 * d.val + (x 0).val) (h1 : (j 1).val = (x 1).val) :
    tblk m ρ s d x = m ((s : Thread nD τ).loc main_arg0) j := by
  have hj : (ownM tM d).view.emb x = j := by
    rw [own_row]
    funext i; apply Fin.ext
    match i with
    | ⟨0, _⟩ => exact h0.symm
    | ⟨1, _⟩ => exact h1.symm
  unfold tblk
  rw [View.read_apply, hj, tstg_eq]; rfl

/-- Device `d`'s rows of the result: the summed rows times the device's weights. -/
theorem yblk_apply (d : Dev nD) (r : Fin 16) (n : Fin 256) :
    (yblk m ρ d (ValueIdx.ix2 r n) : EReal) = ∑ k : Fin 256, (acc m ρ ks d (ValueIdx.ix2 r k) : EReal) * (m ((d : Thread nD τ).loc main_arg1) (ValueIdx.ix2 k n) : EReal) := by
  unfold yblk mul
  rw [shapeCast_self, wstg_eq]
  refine (Ideal.matmul_plain_apply (M := 16) (K := 256) (N := 256) none (acc m ρ ks d) (m ((d : Thread nD τ).loc main_arg1)) (constant S16x256 .f32 0x00000000#32) r n).trans ?_
  show Ideal.ofBits .f32 0x00000000#32 + _ = _
  rw [Ideal.ofBits_zero_f32, zero_add]

/-- The result on every device: row `r`, column `n` is the sum over `k` of the devices' summed `t` at `(r, k)` times the
    weights at `(k, n)`. -/
theorem out_apply (T : Dev nD → S512x256.Idx → EReal) (W : S256x256.Idx → EReal) (hT : ∀ s : Dev nD, m ((s : Thread nD τ).loc main_arg0) = T s) (hW : ∀ d : Dev nD, m ((d : Thread nD τ).loc main_arg1) = W) (r : Fin 512) (n : Fin 256) :
    (outF m ρ (ValueIdx.ix2 r n) : EReal) = ∑ k : Fin 256, (∑ s : Dev nD, T s (ValueIdx.ix2 r k)) * W (ValueIdx.ix2 k n) := by
  have hr := r.isLt
  let d : Dev nD := ⟨r.val / 16, by show _ < 32; omega⟩
  let r' : Fin 16 := ⟨r.val % 16, Nat.mod_lt _ (by decide)⟩
  have e : r.val = 16 * d.val + r'.val := (Nat.div_add_mod r.val 16).symm
  refine Eq.trans (α := EReal) (out_at m ρ d (ValueIdx.ix2 r' n) (ValueIdx.ix2 r n) e rfl) ?_
  refine Eq.trans (α := EReal) (yblk_apply m ρ d r' n) ?_
  refine Finset.sum_congr rfl fun k _ => ?_
  rw [acc_apply, hW]
  refine congrArg (· * W (ValueIdx.ix2 k n)) (Finset.sum_congr rfl fun s _ => ?_)
  rw [← hT]
  exact tblk_apply m ρ s d (ValueIdx.ix2 r' k) (ValueIdx.ix2 r k) e rfl

end Cert.KernelIdealProof

end
-- ==== Proof.KernelIdeal.Algebra.lean ====
module

public import proofs.«01_k».proof.Defs
public import proofs.«01_k».proof.Proof.KernelIdeal.Result
public import proofs.«01_k».proof.Proof.Gen.ReferenceIdeal.Run
public import Idealize.ShloMosaic.Lib.StackMember
public import Idealize.ShloMosaic.Lib.Pointwise.Reduce
public import Idealize.ShloMosaic.Lib.Quiescent

/-! # The reference's result, and that it is the kernel's

The reference stacks the 32 blocks of its first argument, adds them up and multiplies by the weights. Over the extended reals
its result at a row and a column is the same double sum as the kernel's. -/

@[expose] public section

set_option maxRecDepth 100000

noncomputable section

namespace Cert.KernelIdealProof

open Idealize.ShloMosaic Idealize.ShloMosaic.TcCoe Idealize.SL.Sem
open Cert.ReferenceIdeal Cert.ReferenceIdeal.Gen

/-- The reference's result as a function of its two arguments. -/
def refOut (T : FVec Ideal S16384x256 .f32) (W : FVec Ideal S256x256 .f32) : FVec Ideal S512x256 .f32 :=
  Host.dotGeneral dot_S512x256_S256x256_S512x256_1_0_0_1_n_n none
    (Host.reduceAdd (shapeCast S32x512x256 T shapeCasts_S16384x256_S32x512x256) (constant S_ .f32 0x00000000#32)
      reducesTo_S32x512x256_S512x256_d0 h_S_) W

/-- Block `s` of the first argument: its row `r` is row `512 s + r` of the whole. -/
def part (T : FVec Ideal S16384x256 .f32) (s : Fin 32) (r : Fin 512) (k : Fin 256) : EReal :=
  T (ValueIdx.ix2 ⟨s.val * 512 + r.val, by have := s.isLt; have := r.isLt; omega⟩ k)

/-- The stacked argument read at block `s`, row `r`, column `k`. -/
theorem stack_apply (T : FVec Ideal S16384x256 .f32) (s : Fin 32) (r : Fin 512) (k : Fin 256) :
    shapeCast S32x512x256 T shapeCasts_S16384x256_S32x512x256 (ix3 s r k) = part T s r k := by
  refine shapeCast_apply T _ _ _ ?_
  rw [Shape.rowMajor_val_two, Shape.rowMajor_val_three]
  show (s.val * 512 + r.val) * 256 + k.val = (s.val * 512 + r.val) * 256 + k.val
  rfl

/-- The sum over the blocks, at row `r` and column `k`. -/
theorem sum_apply (T : FVec Ideal S16384x256 .f32) (r : Fin 512) (k : Fin 256) :
    (Host.reduceAdd (shapeCast S32x512x256 T shapeCasts_S16384x256_S32x512x256) (constant S_ .f32 0x00000000#32)
      reducesTo_S32x512x256_S512x256_d0 h_S_ (ValueIdx.ix2 r k) : EReal) = ∑ s : Fin 32, part T s r k := by
  rw [Host.reduceAdd_apply]
  refine Eq.trans (α := EReal) (Ideal.hostReduceAdd_r3_a0 reducesTo_S32x512x256_S512x256_d0 _ _ (ValueIdx.ix2 r k)) ?_
  refine Eq.trans (α := EReal) (congrArg (· + _) (Ideal.ofBits_zero_f32)) ?_
  refine Eq.trans (α := EReal) (zero_add _) ?_
  exact Finset.sum_congr rfl fun s _ => stack_apply T s r k

/-- The reference's result at row `r` and column `n`. -/
theorem refOut_apply (T : FVec Ideal S16384x256 .f32) (W : FVec Ideal S256x256 .f32) (r : Fin 512) (n : Fin 256) :
    (refOut T W (ValueIdx.ix2 r n) : EReal) = ∑ k : Fin 256, (∑ s : Fin 32, part T s r k) * (W (ValueIdx.ix2 k n) : EReal) := by
  refine Eq.trans (α := EReal) (StackMember.dotGeneral_plain_apply (m := 512) (k := 256) (n := 256) none _ W r n) ?_
  exact Finset.sum_congr rfl fun k _ => congrArg (· * (W (ValueIdx.ix2 k n) : EReal)) (sum_apply T r k)

/-- When every device starts with its block of `T` and with the weights `W`, the kernel's result is the reference's. -/
theorem out_eq_ref (m : (ℓ : Loc Cert.KernelIdeal.nD Cert.KernelIdeal.τ Cert.KernelIdeal.sig) → Buf (Elt Ideal) ℓ) (ρ : Dev Cert.KernelIdeal.nD → PrngReg)
    (T : FVec Ideal S16384x256 .f32) (W : FVec Ideal S256x256 .f32)
    (hT : ∀ c : Dev Cert.KernelIdeal.nD, m ((c.tc : Thread Cert.KernelIdeal.nD Cert.KernelIdeal.τ).loc Cert.KernelIdeal.main_arg0) = Layout.block ⟨2, ![512, 256]⟩ ⟨2, ![16384, 256]⟩ 0 32 c T)
    (hW : ∀ c : Dev Cert.KernelIdeal.nD, m ((c.tc : Thread Cert.KernelIdeal.nD Cert.KernelIdeal.τ).loc Cert.KernelIdeal.main_arg1) = W) :
    outF m ρ = refOut T W := by
  funext j
  rw [ValueIdx.eq_ix2 j]
  refine Eq.trans (α := EReal) (out_apply m ρ _ W hT hW (j 0) (j 1)) (Eq.trans (α := EReal) ?_ (refOut_apply T W (j 0) (j 1)).symm)
  refine Finset.sum_congr rfl fun k _ => congrArg (· * (W (ValueIdx.ix2 k (j 1)) : EReal)) (Finset.sum_congr rfl fun s _ => ?_)
  show T _ = T _
  congr 1
  funext a; apply Fin.ext
  match a with
  | ⟨0, _⟩ => rfl
  | ⟨1, _⟩ => rfl

/-- The two programs, run from memories that agree, leave the same result. -/
theorem algebraic [hK : Cert.KernelIdeal.Facts] [hR : Cert.ReferenceIdeal.Facts] : Cert.algebraic_KernelIdeal_ReferenceIdeal := by
  intro m g m' g' _ h
  refine ⟨refOut (m' (((0 : Dev nD).tc : Thread nD τ).loc main_arg0)) (m' (((0 : Dev nD).tc : Thread nD τ).loc main_arg1)), ?_, ?_⟩
  · refine (θ_run Cert.KernelIdeal.defs _ _).mono (fun r hr c => ⟨(hr c).1.trans ?_, (hr c).2⟩) (value_run m g)
    exact (final_out m g c).trans (out_eq_ref m g _ _ (fun c => (h c).1) (fun c => (h c).2))
  · exact (θ_run Cert.ReferenceIdeal.defs _ _).mono (fun r hr => hr 0) (Cert.ReferenceIdeal.Value.run (F := Ideal) m' g')

/-- The reference terminates, leaves its arguments as they were and, having no semaphore, leaves all of them at zero. -/
theorem reference_frame [hR : Cert.ReferenceIdeal.Facts] : Cert.quiescent_ReferenceIdeal := by
  intro m g _
  exact (θ_run Cert.ReferenceIdeal.defs _ _).mono (fun r hr => ⟨fun c => (hr c).2, sem_eq_zero_of_no_sems rfl r.2⟩)
    (Cert.ReferenceIdeal.Value.run (F := Ideal) m g)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Algebra
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts,
  fun m g _ => Cert.KernelProof.frame_run m g,
  fun m g _ => Cert.KernelIdealProof.frame_run m g,
  Cert.KernelIdealProof.reference_frame,
  trivial,
  Cert.KernelIdealProof.algebraic⟩

end Cert.Proof

end
